-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x8x256 : Shape := ⟨3, ![10000, 8, 256]⟩
abbrev S10000x8x8 : Shape := ⟨3, ![10000, 8, 8]⟩
abbrev S64x256 : Shape := ⟨2, ![64, 256]⟩
abbrev S64 : Shape := ⟨1, ![64]⟩
abbrev S1 : Shape := ⟨1, ![1]⟩
abbrev S64x64 : Shape := ⟨2, ![64, 64]⟩
abbrev S128 : Shape := ⟨1, ![128]⟩
abbrev S48x128 : Shape := ⟨2, ![48, 128]⟩
abbrev S48x1 : Shape := ⟨2, ![48, 1]⟩
abbrev S128x2 : Shape := ⟨2, ![128, 2]⟩
abbrev S10000x64 : Shape := ⟨2, ![10000, 64]⟩
abbrev S_ : Shape := ⟨0, ![]⟩
abbrev S10000x128 : Shape := ⟨2, ![10000, 128]⟩
abbrev S1x128 : Shape := ⟨2, ![1, 128]⟩
abbrev S256x64 : Shape := ⟨2, ![256, 64]⟩
abbrev S256x128 : Shape := ⟨2, ![256, 128]⟩
abbrev S128x128 : Shape := ⟨2, ![128, 128]⟩
abbrev S2 : Shape := ⟨1, ![2]⟩
abbrev S1x2 : Shape := ⟨2, ![1, 2]⟩
abbrev S20000x1 : Shape := ⟨2, ![20000, 1]⟩
abbrev S2000x8x256 : Shape := ⟨3, ![2000, 8, 256]⟩
abbrev S2000x128 : Shape := ⟨2, ![2000, 128]⟩
abbrev S8x128 : Shape := ⟨2, ![8, 128]⟩
abbrev S16000x256 : Shape := ⟨2, ![16000, 256]⟩
abbrev S16000x128 : Shape := ⟨2, ![16000, 128]⟩
abbrev S1x1x128 : Shape := ⟨3, ![1, 1, 128]⟩
abbrev S16x128 : Shape := ⟨2, ![16, 128]⟩
abbrev S16x1x128 : Shape := ⟨3, ![16, 1, 128]⟩
abbrev S16x8x128 : Shape := ⟨3, ![16, 8, 128]⟩
abbrev S16x64 : Shape := ⟨2, ![16, 64]⟩
abbrev S1x1 : Shape := ⟨2, ![1, 1]⟩
abbrev S2x128 : Shape := ⟨2, ![2, 128]⟩
abbrev S2000x2 : Shape := ⟨2, ![2000, 2]⟩
abbrev S1999x128 : Shape := ⟨2, ![1999, 128]⟩
abbrev S2000x1 : Shape := ⟨2, ![2000, 1]⟩

abbrev nBuf : Space → Nat
  | .hbm => 62
  | .vmem => 18
  | .smem => 0
  | _ => 0

abbrev bufTy : (tb : Table) → Fin (tcTables nBuf tb) → BufTy
  | .hbm, ⟨0, _⟩ => ⟨S10000x8x256, .f32⟩
  | .hbm, ⟨1, _⟩ => ⟨S10000x8x8, .f32⟩
  | .hbm, ⟨2, _⟩ => ⟨S64x256, .f32⟩
  | .hbm, ⟨3, _⟩ => ⟨S64, .f32⟩
  | .hbm, ⟨4, _⟩ => ⟨S1, .f32⟩
  | .hbm, ⟨5, _⟩ => ⟨S64x256, .f32⟩
  | .hbm, ⟨6, _⟩ => ⟨S64, .f32⟩
  | .hbm, ⟨7, _⟩ => ⟨S1, .f32⟩
  | .hbm, ⟨8, _⟩ => ⟨S64x64, .f32⟩
  | .hbm, ⟨9, _⟩ => ⟨S1, .f32⟩
  | .hbm, ⟨10, _⟩ => ⟨S64x64, .f32⟩
  | .hbm, ⟨11, _⟩ => ⟨S1, .f32⟩
  | .hbm, ⟨12, _⟩ => ⟨S128, .f32⟩
  | .hbm, ⟨13, _⟩ => ⟨S48x128, .f32⟩
  | .hbm, ⟨14, _⟩ => ⟨S48x1, .f32⟩
  | .hbm, ⟨15, _⟩ => ⟨S128x2, .f32⟩
  | .hbm, ⟨16, _⟩ => ⟨S10000x8x8, .bf16⟩
  | .hbm, ⟨17, _⟩ => ⟨S10000x64, .bf16⟩
  | .hbm, ⟨18, _⟩ => ⟨S_, .i32⟩
  | .hbm, ⟨19, _⟩ => ⟨S_, .bf16⟩
  | .hbm, ⟨20, _⟩ => ⟨S10000x128, .bf16⟩
  | .hbm, ⟨21, _⟩ => ⟨S1x128, .f32⟩
  | .hbm, ⟨22, _⟩ => ⟨S1x128, .bf16⟩
  | .hbm, ⟨23, _⟩ => ⟨S256x64, .f32⟩
  | .hbm, ⟨24, _⟩ => ⟨S256x64, .f32⟩
  | .hbm, ⟨25, _⟩ => ⟨S256x128, .f32⟩
  | .hbm, ⟨26, _⟩ => ⟨S256x128, .bf16⟩
  | .hbm, ⟨27, _⟩ => ⟨S_, .f32⟩
  | .hbm, ⟨28, _⟩ => ⟨S128x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S128x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S128x128, .f32⟩
  | .hbm, ⟨41, _⟩ => ⟨S128x128, .bf16⟩
  | .hbm, ⟨42, _⟩ => ⟨S128, .f32⟩
  | .hbm, ⟨43, _⟩ => ⟨S1x128, .f32⟩
  | .hbm, ⟨44, _⟩ => ⟨S1x128, .bf16⟩
  | .hbm, ⟨45, _⟩ => ⟨S64, .f32⟩
  | .hbm, ⟨46, _⟩ => ⟨S64, .f32⟩
  | .hbm, ⟨47, _⟩ => ⟨S128, .f32⟩
  | .hbm, ⟨48, _⟩ => ⟨S1x128, .f32⟩
  | .hbm, ⟨49, _⟩ => ⟨S1x128, .bf16⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S2, .f32⟩
  | .hbm, ⟨55, _⟩ => ⟨S1x2, .f32⟩
  | .hbm, ⟨56, _⟩ => ⟨S48x128, .f32⟩
  | .hbm, ⟨57, _⟩ => ⟨S48x128, .f32⟩
  | .hbm, ⟨58, _⟩ => ⟨S48x128, .bf16⟩
  | .hbm, ⟨59, _⟩ => ⟨S128x2, .bf16⟩
  | .hbm, ⟨60, _⟩ => ⟨S20000x1, .f32⟩
  | .hbm, ⟨61, _⟩ => ⟨S20000x1, .f32⟩
  | .local _ .vmem, ⟨0, _⟩ => ⟨S2000x8x256, .f32⟩
  | .local _ .vmem, ⟨1, _⟩ => ⟨S2000x8x256, .f32⟩
  | .local _ .vmem, ⟨2, _⟩ => ⟨S2000x128, .bf16⟩
  | .local _ .vmem, ⟨3, _⟩ => ⟨S2000x128, .bf16⟩
  | .local _ .vmem, ⟨4, _⟩ => ⟨S256x128, .bf16⟩
  | .local _ .vmem, ⟨5, _⟩ => ⟨S48x128, .bf16⟩
  | .local _ .vmem, ⟨6, _⟩ => ⟨S128x128, .bf16⟩
  | .local _ .vmem, ⟨7, _⟩ => ⟨S1x128, .bf16⟩
  | .local _ .vmem, ⟨8, _⟩ => ⟨S1x128, .bf16⟩
  | .local _ .vmem, ⟨9, _⟩ => ⟨S1x128, .bf16⟩
  | .local _ .vmem, ⟨10, _⟩ => ⟨S128x2, .bf16⟩
  | .local _ .vmem, ⟨11, _⟩ => ⟨S1x2, .f32⟩
  | .local _ .vmem, ⟨12, _⟩ => ⟨S20000x1, .f32⟩
  | .local _ .vmem, ⟨13, _⟩ => ⟨S20000x1, .f32⟩
  | .local _ .vmem, ⟨14, _⟩ => ⟨S2000x128, .bf16⟩
  | .local _ .vmem, ⟨15, _⟩ => ⟨S2000x128, .bf16⟩
  | .local _ .vmem, ⟨16, _⟩ => ⟨S8x128, .bf16⟩
  | .local _ .vmem, ⟨17, _⟩ => ⟨S8x128, .bf16⟩
  | _, _ => ⟨S10000x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_cst_0 : Ref sig .tc := ⟨.hbm, 13, rfl⟩
abbrev main_call0_cst_1 : Ref sig .tc := ⟨.hbm, 14, rfl⟩
abbrev main_call0_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_c : Ref sig .tc := ⟨.hbm, 18, rfl⟩
abbrev main_call0_call0_v0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_cst_3 : Ref sig .tc := ⟨.hbm, 27, rfl⟩
abbrev main_call0_v9 : Ref sig .tc := ⟨.hbm, 28, rfl⟩
abbrev main_call0_c_4 : Ref sig .tc := ⟨.hbm, 29, rfl⟩
abbrev main_call0_v10 : Ref sig .tc := ⟨.hbm, 30, rfl⟩
abbrev main_call0_c_5 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_c_6 : Ref sig .tc := ⟨.hbm, 35, rfl⟩
abbrev main_call0_v14 : Ref sig .tc := ⟨.hbm, 36, rfl⟩
abbrev main_call0_c_7 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_v25 : Ref sig .tc := ⟨.hbm, 48, rfl⟩
abbrev main_call0_v26 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_v0_0 : Ref sig .tc := ⟨.hbm, 60, rfl⟩
abbrev main_v0_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let c2000_i32 : BitVec 32 := 2000#32
  let v0 : BitVec 32 := Scalar.muli arg0 c2000_i32
  let v4171 : Index := Scalar.indexCast v0
  let c0_1405 : Index := 0#32
  ![v4171.toNat, 0]
def k0_off2 (i : grid0.Coords) : Fin 2 → Nat :=
  let c10000_i32 : BitVec 32 := 10000#32
  let arg0 : BitVec 32 := BitVec.ofNat 32 (i 0).val
  let c2000_i32 : BitVec 32 := 2000#32
  let v0 : BitVec 32 := Scalar.muli arg0 c2000_i32
  let v4181 : BitVec 32 := Scalar.addi c10000_i32 v0
  let v4182 : Index := Scalar.indexCast v4181
  let c0_1407 : Index := 0#32
  ![v4182.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S20000x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20000x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S10000x8x256 : Shape := ⟨3, ![10000, 8, 256]⟩
abbrev S10000x8x8 : Shape := ⟨3, ![10000, 8, 8]⟩
abbrev S64x256 : Shape := ⟨2, ![64, 256]⟩
abbrev S64 : Shape := ⟨1, ![64]⟩
abbrev S1 : Shape := ⟨1, ![1]⟩
abbrev S64x64 : Shape := ⟨2, ![64, 64]⟩
abbrev S10000x8x64 : Shape := ⟨3, ![10000, 8, 64]⟩
abbrev S1x1x64 : Shape := ⟨3, ![1, 1, 64]⟩
abbrev S_ : Shape := ⟨0, ![]⟩
abbrev S1x1x1 : Shape := ⟨3, ![1, 1, 1]⟩
abbrev S10000x7x64 : Shape := ⟨3, ![10000, 7, 64]⟩
abbrev S10000x64 : Shape := ⟨2, ![10000, 64]⟩
abbrev S10000x1x64 : Shape := ⟨3, ![10000, 1, 64]⟩
abbrev S1x64 : Shape := ⟨2, ![1, 64]⟩
abbrev S9999x64 : Shape := ⟨2, ![9999, 64]⟩
abbrev S10000 : Shape := ⟨1, ![10000]⟩
abbrev S10000x1 : Shape := ⟨2, ![10000, 1]⟩
abbrev S1x1 : Shape := ⟨2, ![1, 1]⟩
abbrev S20000x1 : Shape := ⟨2, ![20000, 1]⟩

abbrev nBuf : Space → Nat
  | .hbm => 88
  | .vmem => 0
  | .smem => 0
  | _ => 0

abbrev bufTy : (tb : Table) → Fin (tcTables nBuf tb) → BufTy
  | .hbm, ⟨0, _⟩ => ⟨S10000x8x256, .f32⟩
  | .hbm, ⟨1, _⟩ => ⟨S10000x8x8, .f32⟩
  | .hbm, ⟨2, _⟩ => ⟨S64x256, .f32⟩
  | .hbm, ⟨3, _⟩ => ⟨S64, .f32⟩
  | .hbm, ⟨4, _⟩ => ⟨S1, .f32⟩
  | .hbm, ⟨5, _⟩ => ⟨S64x256, .f32⟩
  | .hbm, ⟨6, _⟩ => ⟨S64, .f32⟩
  | .hbm, ⟨7, _⟩ => ⟨S1, .f32⟩
  | .hbm, ⟨8, _⟩ => ⟨S64x64, .f32⟩
  | .hbm, ⟨9, _⟩ => ⟨S1, .f32⟩
  | .hbm, ⟨10, _⟩ => ⟨S64x64, .f32⟩
  | .hbm, ⟨11, _⟩ => ⟨S1, .f32⟩
  | .hbm, ⟨12, _⟩ => ⟨S10000x8x64, .f32⟩
  | .hbm, ⟨13, _⟩ => ⟨S10000x8x64, .f32⟩
  | .hbm, ⟨14, _⟩ => ⟨S1x1x64, .f32⟩
  | .hbm, ⟨15, _⟩ => ⟨S10000x8x64, .f32⟩
  | .hbm, ⟨16, _⟩ => ⟨S10000x8x64, .f32⟩
  | .hbm, ⟨17, _⟩ => ⟨S_, .f32⟩
  | .hbm, ⟨18, _⟩ => ⟨S10000x8x64, .f32⟩
  | .hbm, ⟨19, _⟩ => ⟨S10000x8x64, .i1⟩
  | .hbm, ⟨20, _⟩ => ⟨S1x1x1, .f32⟩
  | .hbm, ⟨21, _⟩ => ⟨S10000x8x64, .f32⟩
  | .hbm, ⟨22, _⟩ => ⟨S10000x8x64, .f32⟩
  | .hbm, ⟨23, _⟩ => ⟨S10000x8x64, .f32⟩
  | .hbm, ⟨24, _⟩ => ⟨S10000x8x64, .f32⟩
  | .hbm, ⟨25, _⟩ => ⟨S10000x8x64, .f32⟩
  | .hbm, ⟨26, _⟩ => ⟨S1x1x64, .f32⟩
  | .hbm, ⟨27, _⟩ => ⟨S10000x8x64, .f32⟩
  | .hbm, ⟨28, _⟩ => ⟨S10000x8x64, .f32⟩
  | .hbm, ⟨29, _⟩ => ⟨S_, .f32⟩
  | .hbm, ⟨30, _⟩ => ⟨S10000x8x64, .f32⟩
  | .hbm, ⟨31, _⟩ => ⟨S10000x8x64, .i1⟩
  | .hbm, ⟨32, _⟩ => ⟨S1x1x1, .f32⟩
  | .hbm, ⟨33, _⟩ => ⟨S10000x8x64, .f32⟩
  | .hbm, ⟨34, _⟩ => ⟨S10000x8x64, .f32⟩
  | .hbm, ⟨35, _⟩ => ⟨S10000x8x64, .f32⟩
  | .hbm, ⟨36, _⟩ => ⟨S10000x7x64, .f32⟩
  | .hbm, ⟨37, _⟩ => ⟨S_, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S10000x1x64, .f32⟩
  | .hbm, ⟨43, _⟩ => ⟨S10000x64, .f32⟩
  | .hbm, ⟨44, _⟩ => ⟨S1x64, .f32⟩
  | .hbm, ⟨45, _⟩ => ⟨S9999x64, .f32⟩
  | .hbm, ⟨46, _⟩ => ⟨S10000x64, .f32⟩
  | .hbm, ⟨47, _⟩ => ⟨S10000x64, .f32⟩
  | .hbm, ⟨48, _⟩ => ⟨S10000x64, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S1x1, .f32⟩
  | .hbm, ⟨53, _⟩ => ⟨S10000x1, .f32⟩
  | .hbm, ⟨54, _⟩ => ⟨S10000x1, .f32⟩
  | .hbm, ⟨55, _⟩ => ⟨S10000x64, .f32⟩
  | .hbm, ⟨56, _⟩ => ⟨S10000x64, .f32⟩
  | .hbm, ⟨57, _⟩ => ⟨S_, .f32⟩
  | .hbm, ⟨58, _⟩ => ⟨S10000, .f32⟩
  | .hbm, ⟨59, _⟩ => ⟨S10000x1, .f32⟩
  | .hbm, ⟨60, _⟩ => ⟨S1x1, .f32⟩
  | .hbm, ⟨61, _⟩ => ⟨S10000x1, .f32⟩
  | .hbm, ⟨62, _⟩ => ⟨S10000x1, .f32⟩
  | .hbm, ⟨63, _⟩ => ⟨S20000x1, .f32⟩
  | .hbm, ⟨64, _⟩ => ⟨S10000x1x64, .f32⟩
  | .hbm, ⟨65, _⟩ => ⟨S10000x64, .f32⟩
  | .hbm, ⟨66, _⟩ => ⟨S10000x1x64, .f32⟩
  | .hbm, ⟨67, _⟩ => ⟨S10000x64, .f32⟩
  | .hbm, ⟨68, _⟩ => ⟨S1x64, .f32⟩
  | .hbm, ⟨69, _⟩ => ⟨S9999x64, .f32⟩
  | .hbm, ⟨70, _⟩ => ⟨S10000x64, .f32⟩
  | .hbm, ⟨71, _⟩ => ⟨S10000x64, .f32⟩
  | .hbm, ⟨72, _⟩ => ⟨S10000x64, .f32⟩
  | .hbm, ⟨73, _⟩ => ⟨S_, .f32⟩
  | .hbm, ⟨74, _⟩ => ⟨S10000, .f32⟩
  | .hbm, ⟨75, _⟩ => ⟨S10000x1, .f32⟩
  | .hbm, ⟨76, _⟩ => ⟨S1x1, .f32⟩
  | .hbm, ⟨77, _⟩ => ⟨S10000x1, .f32⟩
  | .hbm, ⟨78, _⟩ => ⟨S10000x1, .f32⟩
  | .hbm, ⟨79, _⟩ => ⟨S10000x64, .f32⟩
  | .hbm, ⟨80, _⟩ => ⟨S10000x64, .f32⟩
  | .hbm, ⟨81, _⟩ => ⟨S_, .f32⟩
  | .hbm, ⟨82, _⟩ => ⟨S10000, .f32⟩
  | .hbm, ⟨83, _⟩ => ⟨S10000x1, .f32⟩
  | .hbm, ⟨84, _⟩ => ⟨S1x1, .f32⟩
  | .hbm, ⟨85, _⟩ => ⟨S10000x1, .f32⟩
  | .hbm, ⟨86, _⟩ => ⟨S10000x1, .f32⟩
  | .hbm, ⟨87, _⟩ => ⟨S20000x1, .f32⟩
  | _, _ => ⟨S10000x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Proof.Blocks.lean ====
/-
  The kernel body as a prologue, 125 equal sub-blocks and an epilogue.
-/
module

public import proofs.«01_k».proof.Proof.Gen.KernelIdeal

@[expose] public section

noncomputable section

namespace Cert.KernelIdeal.Body

open Idealize.ShloMosaic Idealize.SL.Sem
open Cert.KernelIdeal Facts₀ Facts

variable {F : FTy → Type} [FloatOps F]

/-- A body's program: it returns nothing. -/
abbrev Bd (F : FTy → Type) := Prog (TpuEff nD τ sig (Elt F) Λ₀ .tc) PUnit

theorem inb16 (j : ℕ) (hj : j < 125) : ∀ a, (![16 * j, 0] : Fin 2 → Nat) a + S16x128.size a ≤ S2000x128.size a := by
  intro a
  match a with
  | 0 => show 16 * j + 16 ≤ 2000; omega
  | 1 => show 0 + 128 ≤ 128; omega

theorem slices128 (j : ℕ) (hj : j < 125) : S16000x128.Slices ![128 * j, 0] S128x128 := by
  refine ⟨rfl, fun a => ?_⟩
  match a with
  | 0 => show 128 * j + 128 ≤ 16000; omega
  | 1 => show 0 + 128 ≤ 128; omega

theorem packed16 (j : ℕ) (hj : j < 125) : (Rect.unit (s := S2000x128) ![16 * j, 0] S16x128.size (inb16 j hj)).PackedRows (EltTy.packing .bf16) := by
  refine Or.inr ⟨by decide, rfl, Or.inl ⟨?_, ?_⟩⟩
  · show 2 ∣ 16 * j
    omega
  · show 2 ∣ 16
    decide

/-- The block diagonal adjacency of one sub-block: 16 graphs' rows of 64 entries, spread over 128 rows. -/
def bdV (v16 : FVec F S1x1x128 .bf16) (a : Vec F S16x128 .bf16) : FVec F S128x128 .bf16 :=
  shapeCast S128x128 (dynamicRotate 2 0#32 (some (8, 0)) (dynamicRotate 2 64#32 none
    (mulf (dynamicRotate 2 8#32 (some (8, 1)) (broadcastTo S16x8x128 (shapeCast S16x1x128 (shapeCast S16x1x128 (shapeCast S16x128 a shapeCasts_S16x128_S16x128)
      shapeCasts_S16x128_S16x1x128) shapeCasts_S16x1x128_S16x1x128) broadcasts_S16x1x128_S16x8x128) rotates_S16x8x128_d2s8a1)
      (broadcastTo S16x8x128 v16 broadcasts_S1x1x128_S16x8x128)) rotates_S16x8x128_d2) rotates_S16x8x128_d2s8a0) shapeCasts_S16x8x128_S128x128

/-- A sub-block's activations before the selection: `bd · x + bias`. -/
def yV (v11 : FVec F S1x128 .bf16) (bd x : FVec F S128x128 .bf16) : FVec F S128x128 .bf16 :=
  addf (truncf .bf16 (matmul dot_S128x128_S128x128_S128x128_1_0_0_1_n_n none bd x (constant S128x128 .f32 0x00000000#32)) bitsLt_bf16_f32)
    (broadcastTo S128x128 v11 broadcasts_S1x128_S128x128)

/-- PReLU with the slopes `v13`. -/
def actV (v13 : FVec F S1x128 .bf16) (y : FVec F S128x128 .bf16) : FVec F S128x128 .bf16 :=
  select (cmpf .oge y (broadcast S128x128 (Scalar.ofBits .bf16 0x0000#16))) y (mulf (broadcastTo S128x128 v13 broadcasts_S1x128_S128x128) y)

/-- The 48 selected rows of one sub-block. -/
def rV (v9 : FVec F S48x128 .bf16) (h : FVec F S128x128 .bf16) : FVec F S48x128 .bf16 :=
  truncf .bf16 (matmul dot_S48x128_S128x128_S48x128_1_0_0_1_n_n none v9 h (constant S48x128 .f32 0x00000000#32)) bitsLt_bf16_f32

/-- What one sub-block stores into the first scratch. -/
def zV (r : FVec F S48x128 .bf16) : FVec F S16x128 .bf16 :=
  shapeCast S16x128 (extractStridedSlice S16x128 ![16, 0] r slices_S48x128_o16_0_S16x128) shapeCasts_S16x128_S16x128

/-- What one sub-block stores into the second scratch. -/
def cV (r : FVec F S48x128 .bf16) : FVec F S16x128 .bf16 :=
  shapeCast S16x128 (concatenate S16x128 1 [⟨S16x64, extractStridedSlice S16x64 ![0, 0] r slices_S48x128_o0_0_S16x64⟩,
    ⟨S16x64, extractStridedSlice S16x64 ![32, 64] r slices_S48x128_o32_64_S16x64⟩] concatenates_S16x64_S16x64_S16x128_d1) shapeCasts_S16x128_S16x128

section
variable (arg2 : Memref sig .tc .vmem S2000x128 .bf16)
  (arg13 : Memref sig .tc .vmem S2000x128 .bf16) (harg13 : arg13.IsWhole) (arg14 : Memref sig .tc .vmem S2000x128 .bf16) (harg14 : arg14.IsWhole)
  (v7 : FVec F S16000x128 .bf16) (v9 : FVec F S48x128 .bf16) (v11 : FVec F S1x128 .bf16) (v13 : FVec F S1x128 .bf16) (v16 : FVec F S1x1x128 .bf16)

/-- The selected rows of sub-block `j` from the adjacency rows `a` it loads. -/
def rowsV (j : ℕ) (hj : j < 125) (a : Vec F S16x128 .bf16) : FVec F S48x128 .bf16 :=
  rV v9 (actV v13 (yV v11 (bdV v16 a) (extractStridedSlice S128x128 ![128 * j, 0] v7 (slices128 j hj))))

/-- Sub-block `j` of the body, then `K`. -/
def blk (j : ℕ) (hj : j < 125) (K : Bd F) : Bd F := do
  let a : Vec F S16x128 .bf16 ← Prog.lift (.load arg2 (Rect.unit (s := S2000x128) ![16 * j, 0] S16x128.size (inb16 j hj)).toLoadRect (View.loadsAt_vmem h_S16x128))
  let _ : Vec F S16x128 .bf16 ← Prog.lift (.load arg13 (Rect.unit (s := S2000x128) ![16 * j, 0] S16x128.size (inb16 j hj)).toLoadRect (View.loadsAt_vmem h_S16x128))
  Prog.lift (.store arg13 (Rect.unit (s := S2000x128) ![16 * j, 0] S16x128.size (inb16 j hj)) (zV (rowsV v7 v9 v11 v13 v16 j hj a)) Finset.univ (View.stores_vmem h_S16x128 (harg13.storeExact_slice rfl _ (packed16 j hj)) (fun _ => rfl)) (.inl rfl))
  let _ : Vec F S16x128 .bf16 ← Prog.lift (.load arg14 (Rect.unit (s := S2000x128) ![16 * j, 0] S16x128.size (inb16 j hj)).toLoadRect (View.loadsAt_vmem h_S16x128))
  Prog.lift (.store arg14 (Rect.unit (s := S2000x128) ![16 * j, 0] S16x128.size (inb16 j hj)) (cV (rowsV v7 v9 v11 v13 v16 j hj a)) Finset.univ (View.stores_vmem h_S16x128 (harg14.storeExact_slice rfl _ (packed16 j hj)) (fun _ => rfl)) (.inl rfl))
  K

/-- `n` sub-blocks from sub-block `j` on, then `K`. -/
def blks : (n j : ℕ) → j + n ≤ 125 → Bd F → Bd F
  | 0, _, _, K => K
  | n + 1, j, h, K => blk arg2 arg13 harg13 arg14 harg14 v7 v9 v11 v13 v16 j (by omega) (blks n (j + 1) (by omega) K)

end

/-! ## The prologue and the epilogue -/

/-- The features of every row of the block: the staged rows times the weights. -/
def ftsV (x : Vec F S2000x8x256 .f32) (w : Vec F S256x128 .bf16) : FVec F S16000x128 .bf16 :=
  truncf .bf16 (matmul dot_S16000x256_S256x128_S16000x128_1_0_0_1_n_n none
    (truncf .bf16 (shapeCast S16000x256 x shapeCasts_S2000x8x256_S16000x256) bitsLt_bf16_f32)
    (shapeCast S256x128 w shapeCasts_S256x128_S256x128) (constant S16000x128 .f32 0x00000000#32)) bitsLt_bf16_f32

/-- The first scratch times the block diagonal weights. -/
def zbV (z : Vec F S2000x128 .bf16) (w : Vec F S128x128 .bf16) : FVec F S2000x128 .bf16 :=
  truncf .bf16 (matmul dot_S2000x128_S128x128_S2000x128_1_0_0_1_n_n none z (shapeCast S128x128 w shapeCasts_S128x128_S128x128)
    (constant S2000x128 .f32 0x00000000#32)) bitsLt_bf16_f32

/-- The two halves of every row summed. -/
def smV (p : FVec F S2000x128 .bf16) (o : FVec F S128x2 .bf16) : FVec F S2000x2 .f32 :=
  matmul dot_S2000x128_S128x2_S2000x2_1_0_0_1_n_n none p o (constant S2000x2 .f32 0x00000000#32)

/-- The two halves of the products `zb * ch` summed, row by row. -/
def stV (zb ch : FVec F S2000x128 .bf16) (o : FVec F S128x2 .bf16) : FVec F S2000x2 .f32 := smV (mulf zb ch) o

/-- The rows of `ch` one later, the carried row first. -/
def shV (c : Vec F S1x128 .bf16) (ch : Vec F S2000x128 .bf16) : FVec F S2000x128 .bf16 :=
  concatenate S2000x128 0 [⟨S1x128, c⟩, ⟨S1999x128, extractStridedSlice S1999x128 ![0, 0] ch slices_S2000x128_o0_0_S1999x128⟩] concatenates_S1x128_S1999x128_S2000x128_d0

/-- Row `0` of `zb`. -/
def zrowV (zb : FVec F S2000x128 .bf16) : FVec F S1x128 .bf16 :=
  shapeCast S1x128 (extractStridedSlice S1x128 ![0, 0] zb slices_S2000x128_o0_0_S1x128) shapeCasts_S1x128_S1x128

/-- The last row of `ch`. -/
def lastV (ch : Vec F S2000x128 .bf16) : FVec F S1x128 .bf16 :=
  shapeCast S1x128 (extractStridedSlice S1x128 ![1999, 0] ch slices_S2000x128_o1999_0_S1x128) shapeCasts_S1x128_S1x128

/-- The only element of a 1×1 vector. -/
def elt1 (b : Vec F S1x1 .f32) : F .f32 := extractAt ![0, 0] b inpos_S1x1_p0_0

/-- Column 0 of the two sums plus the first scalar. -/
def out0V (st : FVec F S2000x2 .f32) (b : F .f32) : FVec F S2000x1 .f32 :=
  addf (extractStridedSlice S2000x1 ![0, 0] st slices_S2000x2_o0_0_S2000x1) (broadcast S2000x1 b)

/-- Column 1 of the two sums plus the second scalar. -/
def out1V (st : FVec F S2000x2 .f32) (b : F .f32) : FVec F S2000x1 .f32 :=
  addf (extractStridedSlice S2000x1 ![0, 1] st slices_S2000x2_o0_1_S2000x1) (broadcast S2000x1 b)

/-- The two sums of one row's products. -/
def st1V (z c : Vec F S1x128 .bf16) (o : FVec F S128x2 .bf16) : FVec F S1x2 .f32 :=
  matmul dot_S1x128_S128x2_S1x2_1_0_0_1_n_n none (mulf z c) o (constant S1x2 .f32 0x00000000#32)

/-- Column 0 of one row's sums plus the first scalar. -/
def fix0V (st : FVec F S1x2 .f32) (b : F .f32) : FVec F S1x1 .f32 :=
  addf (extractStridedSlice S1x1 ![0, 0] st slices_S1x2_o0_0_S1x1) (broadcast S1x1 b)

/-- Column 1 of one row's sums plus the second scalar. -/
def fix1V (st : FVec F S1x2 .f32) (b : F .f32) : FVec F S1x1 .f32 :=
  addf (extractStridedSlice S1x1 ![0, 1] st slices_S1x2_o0_1_S1x1) (broadcast S1x1 b)

/-- Whether the grid coordinate is `k`, as the body computes it. -/
def isAt (i : grid0.Coords) (k : BitVec 32) : BitVec 1 :=
  Scalar.cmpi .ne (Scalar.extui (Scalar.cmpi .eq (BitVec.ofNat 32 (i 0).val) k) : BitVec 32) 0#32

/-- The last step's correction of the first rolled row. -/
def fixup (arg11 : Memref sig .tc .vmem S20000x1 .f32) (arg12 : Memref sig .tc .vmem S20000x1 .f32) (arg14 : Memref sig .tc .vmem S2000x128 .bf16) (arg16 : Memref sig .tc .vmem S8x128 .bf16) (o : FVec F S128x2 .bf16) (b0 b1 : F .f32) : Bd F := do
  let z : Vec F S1x128 .bf16 ← Prog.lift (.load arg16 (Rect.unit (s := S8x128) ![0, 0] S1x128.size inb_S8x128_S1x128_0_0).toLoadRect (View.loadsAt_vmem h_S1x128))
  let c : Vec F S1x128 .bf16 ← Prog.lift (.load arg14 (Rect.unit (s := S2000x128) ![1998, 0] S1x128.size inb_S2000x128_S1x128_1998_0).toLoadRect (View.loadsAt_vmem h_S1x128))
  let _ : Vec F S1x1 .f32 ← Prog.lift (.load arg11 (Rect.unit (s := S20000x1) ![10000, 0] S1x1.size inb_S20000x1_S1x1_10000_0).toLoadRect (View.loadsAt_vmem h_S1x1))
  Prog.lift (.store arg11 (Rect.unit (s := S20000x1) ![10000, 0] S1x1.size inb_S20000x1_S1x1_10000_0) (fix0V (st1V z c o) b0) Finset.univ (View.stores_vmem_bits_univ h_S1x1 rfl) (.inl rfl))
  let _ : Vec F S1x1 .f32 ← Prog.lift (.load arg12 (Rect.unit (s := S20000x1) ![10000, 0] S1x1.size inb_S20000x1_S1x1_10000_0).toLoadRect (View.loadsAt_vmem h_S1x1))
  Prog.lift (.store arg12 (Rect.unit (s := S20000x1) ![10000, 0] S1x1.size inb_S20000x1_S1x1_10000_0) (fix1V (st1V z c o) b1) Finset.univ (View.stores_vmem_bits_univ h_S1x1 rfl) (.inl rfl))
  pure ⟨⟩

/-- What the last part of the body reads of the values before it: the summing matrix, the two scalars, the two
    rows of sums and the first result's block. -/
abbrev T2 (F : FTy → Type) := Σ' (_ : FVec F S128x2 .bf16) (_ : F .f32) (_ : F .f32) (_ : FVec F S2000x2 .f32) (_ : FVec F S2000x2 .f32), FVec F S2000x1 .f32

/-- The carried row's exchange: the rolled rows' sums, the last row kept. -/
def exch (arg15 : Memref sig .tc .vmem S8x128 .bf16) (harg15 : arg15.IsWhole) (zb : FVec F S2000x128 .bf16) (ch : Vec F S2000x128 .bf16) (o : FVec F S128x2 .bf16) (s0 s1 : F .f32) (p : FVec F S2000x128 .bf16) :
    Prog (TpuEff nD τ sig (Elt F) Λ₀ .tc) (T2 F) := do
  let c : Vec F S1x128 .bf16 ← Prog.lift (.load arg15 (Rect.unit (s := S8x128) ![0, 0] S1x128.size inb_S8x128_S1x128_0_0).toLoadRect (View.loadsAt_vmem h_S1x128))
  let _ : Vec F S1x128 .bf16 ← Prog.lift (.load arg15 (Rect.unit (s := S8x128) ![0, 0] S1x128.size inb_S8x128_S1x128_0_0).toLoadRect (View.loadsAt_vmem h_S1x128))
  storeSubelements arg15 (Rect.unit (s := S8x128) ![0, 0] S2x128.size inb_S8x128_S2x128_0_0) (fun old => updateSlice old (lastV ch) ![0, 0] slices_S2x128_S1x128_0_0) (View.loadsAt_vmem h_S2x128) (View.stores_vmem h_S2x128 (harg15.storeExact_slice rfl _ packedbf16_S8x128_S2x128_0_0) (fun _ => rfl))
  pure ⟨o, s0, s1, smV p o, stV zb (shV c ch) o, out0V (smV p o) s0⟩

/-- The four stores of the results, then the correction at the last step. -/
def outs (i : grid0.Coords) (arg11 : Memref sig .tc .vmem S20000x1 .f32) (arg12 : Memref sig .tc .vmem S20000x1 .f32) (arg14 : Memref sig .tc .vmem S2000x128 .bf16) (arg16 : Memref sig .tc .vmem S8x128 .bf16) (t : T2 F) : Bd F := do
  let ⟨o, s0, s1, st, st', r⟩ : T2 F := t
  let _ : Vec F S2000x1 .f32 ← Prog.lift (.load arg11 (Rect.unit (s := S20000x1) (k0_off1 i) S2000x1.size (k0_off1_inb i)).toLoadRect (View.loadsAt_vmem h_S2000x1))
  Prog.lift (.store arg11 (Rect.unit (s := S20000x1) (k0_off1 i) S2000x1.size (k0_off1_inb i)) r Finset.univ (View.stores_vmem_bits_univ h_S2000x1 rfl) (.inl rfl))
  let _ : Vec F S2000x1 .f32 ← Prog.lift (.load arg12 (Rect.unit (s := S20000x1) (k0_off1 i) S2000x1.size (k0_off1_inb i)).toLoadRect (View.loadsAt_vmem h_S2000x1))
  Prog.lift (.store arg12 (Rect.unit (s := S20000x1) (k0_off1 i) S2000x1.size (k0_off1_inb i)) (out1V st s1) Finset.univ (View.stores_vmem_bits_univ h_S2000x1 rfl) (.inl rfl))
  let _ : Vec F S2000x1 .f32 ← Prog.lift (.load arg11 (Rect.unit (s := S20000x1) (k0_off2 i) S2000x1.size (k0_off2_inb i)).toLoadRect (View.loadsAt_vmem h_S2000x1))
  Prog.lift (.store arg11 (Rect.unit (s := S20000x1) (k0_off2 i) S2000x1.size (k0_off2_inb i)) (out0V st' s0) Finset.univ (View.stores_vmem_bits_univ h_S2000x1 rfl) (.inl rfl))
  let _ : Vec F S2000x1 .f32 ← Prog.lift (.load arg12 (Rect.unit (s := S20000x1) (k0_off2 i) S2000x1.size (k0_off2_inb i)).toLoadRect (View.loadsAt_vmem h_S2000x1))
  Prog.lift (.store arg12 (Rect.unit (s := S20000x1) (k0_off2 i) S2000x1.size (k0_off2_inb i)) (out1V st' s1) Finset.univ (View.stores_vmem_bits_univ h_S2000x1 rfl) (.inl rfl))
  if _h : isAt i 4#32 = 1#1 then fixup arg11 arg12 arg14 arg16 o s0 s1 else pure ⟨⟩

/-- The first step keeps row 0 of `zb`. -/
def keep0 (arg16 : Memref sig .tc .vmem S8x128 .bf16) (harg16 : arg16.IsWhole) (zb : FVec F S2000x128 .bf16) : Bd F := do
  let _ : Vec F S1x128 .bf16 ← Prog.lift (.load arg16 (Rect.unit (s := S8x128) ![0, 0] S1x128.size inb_S8x128_S1x128_0_0).toLoadRect (View.loadsAt_vmem h_S1x128))
  storeSubelements arg16 (Rect.unit (s := S8x128) ![0, 0] S2x128.size inb_S8x128_S2x128_0_0) (fun old => updateSlice old (zrowV zb) ![0, 0] slices_S2x128_S1x128_0_0) (View.loadsAt_vmem h_S2x128) (View.stores_vmem h_S2x128 (harg16.storeExact_slice rfl _ packedbf16_S8x128_S2x128_0_0) (fun _ => rfl))
  pure ⟨⟩

/-- What follows the sub-blocks. -/
def epi (i : grid0.Coords) (arg5 : Memref sig .tc .vmem S128x128 .bf16) (arg9 : Memref sig .tc .vmem S128x2 .bf16) (arg10 : Memref sig .tc .vmem S1x2 .f32) (arg11 : Memref sig .tc .vmem S20000x1 .f32) (arg12 : Memref sig .tc .vmem S20000x1 .f32) (arg13 : Memref sig .tc .vmem S2000x128 .bf16) (arg14 : Memref sig .tc .vmem S2000x128 .bf16) (arg15 : Memref sig .tc .vmem S8x128 .bf16) (harg15 : arg15.IsWhole) (arg16 : Memref sig .tc .vmem S8x128 .bf16) (harg16 : arg16.IsWhole) : Bd F := do
  let z : Vec F S2000x128 .bf16 ← Prog.lift (.load arg13 (Rect.unit (s := S2000x128) ![0, 0] S2000x128.size inb_S2000x128_S2000x128_0_0).toLoadRect (View.loadsAt_vmem h_S2000x128))
  let w : Vec F S128x128 .bf16 ← Prog.lift (.load arg5 (Rect.unit (s := S128x128) ![0, 0] S128x128.size inb_S128x128_S128x128_0_0).toLoadRect (View.loadsAt_vmem h_S128x128))
  let ch : Vec F S2000x128 .bf16 ← Prog.lift (.load arg14 (Rect.unit (s := S2000x128) ![0, 0] S2000x128.size inb_S2000x128_S2000x128_0_0).toLoadRect (View.loadsAt_vmem h_S2000x128))
  let o : Vec F S128x2 .bf16 ← Prog.lift (.load arg9 (Rect.unit (s := S128x2) ![0, 0] S128x2.size inb_S128x2_S128x2_0_0).toLoadRect (View.loadsAt_vmem h_S128x2))
  let b0 : Vec F S1x1 .f32 ← Prog.lift (.load arg10 (Rect.unit (s := S1x2) ![0, 0] S1x1.size inb_S1x2_S1x1_0_0).toLoadRect (View.loadsAt_vmem h_S1x1))
  let b1 : Vec F S1x1 .f32 ← Prog.lift (.load arg10 (Rect.unit (s := S1x2) ![0, 1] S1x1.size inb_S1x2_S1x1_0_1).toLoadRect (View.loadsAt_vmem h_S1x1))
  let t ← (do
    let ⟨zb, ch, o, s0, s1, p⟩ ← (do
      if _h : isAt i 0#32 = 1#1 then keep0 arg16 harg16 (zbV z w) else pure ⟨⟩
      pure (⟨zbV z w, ch, shapeCast S128x2 o shapeCasts_S128x2_S128x2, elt1 b0, elt1 b1, mulf (zbV z w) ch⟩ :
        Σ' (_ : FVec F S2000x128 .bf16) (_ : Vec F S2000x128 .bf16) (_ : FVec F S128x2 .bf16) (_ : F .f32) (_ : F .f32), FVec F S2000x128 .bf16))
    exch arg15 harg15 zb ch o s0 s1 p)
  outs i arg11 arg12 arg14 arg16 t

/-- The whole body: the features, the 125 sub-blocks, the epilogue. -/
def body (i : grid0.Coords) (arg1 : Memref sig .tc .vmem S2000x8x256 .f32) (arg2 : Memref sig .tc .vmem S2000x128 .bf16) (arg3 : Memref sig .tc .vmem S256x128 .bf16) (arg4 : Memref sig .tc .vmem S48x128 .bf16) (arg5 : Memref sig .tc .vmem S128x128 .bf16) (arg6 : Memref sig .tc .vmem S1x128 .bf16) (arg7 : Memref sig .tc .vmem S1x128 .bf16) (arg8 : Memref sig .tc .vmem S1x128 .bf16) (arg9 : Memref sig .tc .vmem S128x2 .bf16) (arg10 : Memref sig .tc .vmem S1x2 .f32) (arg11 : Memref sig .tc .vmem S20000x1 .f32) (arg12 : Memref sig .tc .vmem S20000x1 .f32) (arg13 : Memref sig .tc .vmem S2000x128 .bf16) (harg13 : arg13.IsWhole) (arg14 : Memref sig .tc .vmem S2000x128 .bf16) (harg14 : arg14.IsWhole) (arg15 : Memref sig .tc .vmem S8x128 .bf16) (harg15 : arg15.IsWhole) (arg16 : Memref sig .tc .vmem S8x128 .bf16) (harg16 : arg16.IsWhole) : Bd F := do
  let x : Vec F S2000x8x256 .f32 ← Prog.lift (.load arg1 (Rect.unit (s := S2000x8x256) ![0, 0, 0] S2000x8x256.size inb_S2000x8x256_S2000x8x256_0_0_0).toLoadRect (View.loadsAt_vmem h_S2000x8x256))
  let w : Vec F S256x128 .bf16 ← Prog.lift (.load arg3 (Rect.unit (s := S256x128) ![0, 0] S256x128.size inb_S256x128_S256x128_0_0).toLoadRect (View.loadsAt_vmem h_S256x128))
  let s : Vec F S48x128 .bf16 ← Prog.lift (.load arg4 (Rect.unit (s := S48x128) ![0, 0] S48x128.size inb_S48x128_S48x128_0_0).toLoadRect (View.loadsAt_vmem h_S48x128))
  let b : Vec F S1x128 .bf16 ← Prog.lift (.load arg6 (Rect.unit (s := S1x128) ![0, 0] S1x128.size inb_S1x128_S1x128_0_0).toLoadRect (View.loadsAt_vmem h_S1x128))
  let a : Vec F S1x128 .bf16 ← Prog.lift (.load arg7 (Rect.unit (s := S1x128) ![0, 0] S1x128.size inb_S1x128_S1x128_0_0).toLoadRect (View.loadsAt_vmem h_S1x128))
  let m : Vec F S1x128 .bf16 ← Prog.lift (.load arg8 (Rect.unit (s := S1x128) ![0, 0] S1x128.size inb_S1x128_S1x128_0_0).toLoadRect (View.loadsAt_vmem h_S1x128))
  blks arg2 arg13 harg13 arg14 harg14 (ftsV x w) (shapeCast S48x128 s shapeCasts_S48x128_S48x128) (shapeCast S1x128 b shapeCasts_S1x128_S1x128)
    (shapeCast S1x128 a shapeCasts_S1x128_S1x128) (shapeCast S1x1x128 (shapeCast S1x128 m shapeCasts_S1x128_S1x128) shapeCasts_S1x128_S1x1x128)
    125 0 (by decide) (epi i arg5 arg9 arg10 arg11 arg12 arg13 arg14 arg15 harg15 arg16 harg16)

end Cert.KernelIdeal.Body

end
-- ==== Proof.Steps.lean ====
/-
  What one sub-block does to the two scratches.
-/
module

public import proofs.«01_k».proof.Proof.Blocks
public import proofs.«01_k».proof.Proof.Gen.KernelIdeal.Frame
public import Idealize.ShloMosaic.Lib.Pipeline.Frame
public import Idealize.ShloMosaic.Lib.Tactic
public import Idealize.ShloMosaic.Lib.VecWindow

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The window of `A` a sub-block loads. -/
abbrev winA (A : S2000x128.Idx → Elt F .bf16) (j : ℕ) (hj : j < 125) : Vec F S16x128 .bf16 :=
  VecWindow.window A ![16 * j, 0] S16x128.size (inb16 j hj)

/-- One sub-block: from the three buffers held, it goes on with the sixteen rows it computes put into the two scratches. -/
theorem wp_blk (c : Dev nD) (arg2 : Memref sig .tc .vmem S2000x128 .bf16)
    (arg13 : Memref sig .tc .vmem S2000x128 .bf16) (harg13 : arg13.IsWhole) (arg14 : Memref sig .tc .vmem S2000x128 .bf16) (harg14 : arg14.IsWhole)
    (v7 : FVec F S16000x128 .bf16) (v9 : FVec F S48x128 .bf16) (v11 : FVec F S1x128 .bf16) (v13 : FVec F S1x128 .bf16) (v16 : FVec F S1x1x128 .bf16)
    (j : ℕ) (hj : j < 125) (A z ch : S2000x128.Idx → Elt F .bf16) (K : Bd F) (Q : PUnit → sProp 𝕄) :
    iprop(owns (c : Thread nD τ) arg2 fullShare A ∗ owns (c : Thread nD τ) arg13 fullShare z ∗ owns (c : Thread nD τ) arg14 fullShare ch
        ∗ (iprop(owns (c : Thread nD τ) arg2 fullShare A
            ∗ owns (c : Thread nD τ) arg13 fullShare (VecWindow.put z ![16 * j, 0] S16x128.size (zV (rowsV v7 v9 v11 v13 v16 j hj (winA A j hj))))
            ∗ owns (c : Thread nD τ) arg14 fullShare (VecWindow.put ch ![16 * j, 0] S16x128.size (cV (rowsV v7 v9 v11 v13 v16 j hj (winA A j hj)))))
            -∗ wp frame (wpE (defs₀ (F := F)) Variants.none c none) Set.univ K Q))
      ⊢ wp frame (wpE (defs₀ (F := F)) Variants.none c none) Set.univ (blk arg2 arg13 harg13 arg14 harg14 v7 v9 v11 v13 v16 j hj K) Q := by
  unfold blk owns
  iintro ⟨⟨%f2, %h2, H2⟩, ⟨%f13, %h13, H13⟩, ⟨%f14, %h14, H14⟩, Hk⟩
  sl_exec
  iapply Hk
  isplitl [H2]
  · iexists f2; isplitr; swap; · iexact H2
    ipureintro; exact h2
  isplitl [H13]
  · iexists _; isplitr; swap; · iexact H13
    ipureintro
    rw [View.read_writes_cons_put _ _ _ _ _ rfl, View.writes_nil, View.readAt_unit _ _ _ rfl (inb16 j hj), h13, h2]
  · iexists _; isplitr; swap; · iexact H14
    ipureintro
    rw [View.read_writes_cons_put _ _ _ _ _ rfl, View.writes_nil, View.readAt_unit _ _ _ rfl (inb16 j hj), h14, h2]

theorem row_lt (y : S2000x128.Idx) : (y 0).val < 2000 := (y 0).isLt

theorem blk_lt (y : S2000x128.Idx) : (y 0).val / 16 < 125 := by have := row_lt y; omega

/-- A row's place among the sixteen of its sub-block. -/
def rowIn (y : S2000x128.Idx) : S16x128.Idx
  | 0 => ⟨(y 0).val % 16, Nat.mod_lt _ (by decide)⟩
  | 1 => y 1

section
variable (v7 : FVec F S16000x128 .bf16) (v9 : FVec F S48x128 .bf16) (v11 : FVec F S1x128 .bf16) (v13 : FVec F S1x128 .bf16) (v16 : FVec F S1x1x128 .bf16)
  (A : S2000x128.Idx → Elt F .bf16)

/-- What the first scratch holds after the sub-blocks: row `r` is row `r % 16` of what sub-block `r / 16` stores. -/
def zAll : S2000x128.Idx → Elt F .bf16 := fun y =>
  zV (rowsV v7 v9 v11 v13 v16 ((y 0).val / 16) (blk_lt y) (winA A _ (blk_lt y)))
    (rowIn y)

/-- What the second scratch holds after the sub-blocks. -/
def cAll : S2000x128.Idx → Elt F .bf16 := fun y =>
  cV (rowsV v7 v9 v11 v13 v16 ((y 0).val / 16) (blk_lt y) (winA A _ (blk_lt y)))
    (rowIn y)
end

/-- Sixteen rows put at row `16 j` of a buffer that agrees with `G` below it agree with `G` below row `16 (j + 1)`, where
    `G`'s rows are those of a family of sixteen-row pieces, of which the one put is the `j`-th. -/
theorem put_rows {α : Type} (P : (j : ℕ) → j < 125 → S16x128.Idx → α) (G : S2000x128.Idx → α)
    (hG : ∀ (y : S2000x128.Idx) (h : (y 0).val / 16 < 125), G y = P ((y 0).val / 16) h (rowIn y))
    (z : S2000x128.Idx → α) (j : ℕ) (hj : j < 125) (hz : ∀ y : S2000x128.Idx, (y 0).val < 16 * j → z y = G y)
    (y : S2000x128.Idx) (hy : (y 0).val < 16 * (j + 1)) : VecWindow.put z ![16 * j, 0] S16x128.size (P j hj) y = G y := by
  by_cases h : (y 0).val < 16 * j
  · unfold VecWindow.put
    rw [dif_neg, hz y h]
    intro hh
    have := (hh 0).1
    have e : (![16 * j, 0] : Fin 2 → ℕ) 0 = 16 * j := rfl
    omega
  · have hdiv : (y 0).val / 16 = j := by omega
    have hin : ∀ a, (![16 * j, 0] : Fin 2 → ℕ) a ≤ (y a).val ∧ (y a).val < (![16 * j, 0] : Fin 2 → ℕ) a + S16x128.size a := by
      intro a
      match a with
      | 0 => exact ⟨by show 16 * j ≤ (y 0).val; omega, by show (y 0).val < 16 * j + 16; omega⟩
      | 1 => exact ⟨Nat.zero_le _, by show (y 1).val < 0 + 128; have : (y 1).val < 128 := (y 1).isLt; omega⟩
    unfold VecWindow.put
    rw [dif_pos hin, hG y (by omega)]
    subst hdiv
    refine congrArg _ (funext fun a => Fin.ext ?_)
    match a with
    | 0 => show (y 0).val - 16 * ((y 0).val / 16) = (y 0).val % 16; omega
    | 1 => show (y 1).val - 0 = (y 1).val; omega

/-- All the sub-blocks from the `j`-th on: the scratches, filled below row `16 j`, end filled. -/
theorem wp_blks (c : Dev nD) (arg2 : Memref sig .tc .vmem S2000x128 .bf16)
    (arg13 : Memref sig .tc .vmem S2000x128 .bf16) (harg13 : arg13.IsWhole) (arg14 : Memref sig .tc .vmem S2000x128 .bf16) (harg14 : arg14.IsWhole)
    (v7 : FVec F S16000x128 .bf16) (v9 : FVec F S48x128 .bf16) (v11 : FVec F S1x128 .bf16) (v13 : FVec F S1x128 .bf16) (v16 : FVec F S1x1x128 .bf16)
    (A : S2000x128.Idx → Elt F .bf16) (K : Bd F) (Q : PUnit → sProp 𝕄) :
    ∀ (n j : ℕ) (h : j + n ≤ 125) (h' : j + n = 125) (z ch : S2000x128.Idx → Elt F .bf16)
      (hz : ∀ y : S2000x128.Idx, (y 0).val < 16 * j → z y = zAll v7 v9 v11 v13 v16 A y)
      (hc : ∀ y : S2000x128.Idx, (y 0).val < 16 * j → ch y = cAll v7 v9 v11 v13 v16 A y),
    iprop(owns (c : Thread nD τ) arg2 fullShare A ∗ owns (c : Thread nD τ) arg13 fullShare z ∗ owns (c : Thread nD τ) arg14 fullShare ch
        ∗ (iprop(owns (c : Thread nD τ) arg2 fullShare A ∗ owns (c : Thread nD τ) arg13 fullShare (zAll v7 v9 v11 v13 v16 A)
            ∗ owns (c : Thread nD τ) arg14 fullShare (cAll v7 v9 v11 v13 v16 A))
            -∗ wp frame (wpE (defs₀ (F := F)) Variants.none c none) Set.univ K Q))
      ⊢ wp frame (wpE (defs₀ (F := F)) Variants.none c none) Set.univ (blks arg2 arg13 harg13 arg14 harg14 v7 v9 v11 v13 v16 n j h K) Q
  | 0, j, h, h', z, ch, hz, hc => by
    have e1 : z = zAll v7 v9 v11 v13 v16 A := funext fun y => hz y (by have := row_lt y; omega)
    have e2 : ch = cAll v7 v9 v11 v13 v16 A := funext fun y => hc y (by have := row_lt y; omega)
    subst e1 e2
    unfold blks
    iintro ⟨H2, H13, H14, Hk⟩
    iapply Hk
    isplitl [H2]; · iexact H2
    isplitl [H13]; · iexact H13
    iexact H14
  | n + 1, j, h, h', z, ch, hz, hc => by
    unfold blks
    iintro ⟨H2, H13, H14, Hk⟩
    iapply (wp_blk c arg2 arg13 harg13 arg14 harg14 v7 v9 v11 v13 v16 j _ A z ch _ Q)
    isplitl [H2]; · iexact H2
    isplitl [H13]; · iexact H13
    isplitl [H14]; · iexact H14
    iintro ⟨H2, H13, H14⟩
    iapply (wp_blks c arg2 arg13 harg13 arg14 harg14 v7 v9 v11 v13 v16 A K Q n (j + 1) _ (by omega) _ _
      (put_rows (fun j hj => zV (rowsV v7 v9 v11 v13 v16 j hj (winA A j hj))) _ (fun _ _ => rfl) z j _ hz)
      (put_rows (fun j hj => cV (rowsV v7 v9 v11 v13 v16 j hj (winA A j hj))) _ (fun _ _ => rfl) ch j (by omega) hc))
    isplitl [H2]; · iexact H2
    isplitl [H13]; · iexact H13
    isplitl [H14]; · iexact H14
    iexact Hk

end Cert.KernelIdeal.Body

end
-- ==== Proof.Epi.lean ====
/-
  What the body does after the sub-blocks, and the whole body.
-/
module

public import proofs.«01_k».proof.Proof.Steps

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load at a unit-stride rectangle reads a window of what the view reads. -/
theorem readAt_window {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- The newest of a list of stores is put over what the others left. -/
theorem read_writes_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- The window of the whole shape. -/
theorem window_full {α : Type} {s : Shape} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

/-- The window of a whole scratch. -/
theorem whole2000 {α : Type} (x : S2000x128.Idx → α) (inb) : VecWindow.window x ![0, 0] ![2000, 128] inb = x := window_full x inb
/-- The window of a whole square matrix. -/
theorem whole128 {α : Type} (x : S128x128.Idx → α) (inb) : VecWindow.window x ![0, 0] ![128, 128] inb = x := window_full x inb
/-- The window of the whole summing matrix. -/
theorem whole2 {α : Type} (x : S128x2.Idx → α) (inb) : VecWindow.window x ![0, 0] ![128, 2] inb = x := window_full x inb

/-- The first row of an eight-row buffer. -/
abbrev row0 (d : S8x128.Idx → Elt F .bf16) : Vec F S1x128 .bf16 := VecWindow.window d ![0, 0] S1x128.size inb_S8x128_S1x128_0_0

/-- An eight-row buffer with its first row replaced, as a two-row store does it. -/
def keepRow (d : S8x128.Idx → Elt F .bf16) (r : FVec F S1x128 .bf16) : S8x128.Idx → Elt F .bf16 :=
  VecWindow.put d ![0, 0] S2x128.size (updateSlice (VecWindow.window d ![0, 0] S2x128.size inb_S8x128_S2x128_0_0 : Vec F S2x128 .bf16) r ![0, 0] slices_S2x128_S1x128_0_0)

section
variable (i : grid0.Coords) (w : S128x128.Idx → Elt F .bf16) (o : S128x2.Idx → Elt F .bf16) (b : S1x2.Idx → Elt F .f32) (z ch : S2000x128.Idx → Elt F .bf16)
  (d15 d16 : S8x128.Idx → Elt F .bf16) (y : S20000x1.Idx → Elt F .f32)

/-- The summing matrix as the body reads it. -/
abbrev oM : FVec F S128x2 .bf16 := shapeCast S128x2 o shapeCasts_S128x2_S128x2
/-- The first scalar. -/
abbrev sc0 : F .f32 := elt1 (VecWindow.window b ![0, 0] S1x1.size inb_S1x2_S1x1_0_0)
/-- The second scalar. -/
abbrev sc1 : F .f32 := elt1 (VecWindow.window b ![0, 1] S1x1.size inb_S1x2_S1x1_0_1)

/-- The row kept for the last step, after this one. -/
def keep16 : S8x128.Idx → Elt F .bf16 := if isAt i 0#32 = 1#1 then keepRow d16 (zrowV (zbV z w)) else d16

/-- The first result's buffer after the four stores and the correction. -/
def res0 : S20000x1.Idx → Elt F .f32 :=
  let y' := VecWindow.put (VecWindow.put y (k0_off1 i) S2000x1.size (out0V (stV (zbV z w) ch (oM o)) (sc0 b)))
    (k0_off2 i) S2000x1.size (out0V (stV (zbV z w) (shV (row0 d15) ch) (oM o)) (sc0 b))
  if isAt i 4#32 = 1#1 then
    VecWindow.put y' ![10000, 0] S1x1.size (fix0V (st1V (row0 (keep16 i w z d16)) (VecWindow.window ch ![1998, 0] S1x128.size inb_S2000x128_S1x128_1998_0) (oM o)) (sc0 b))
  else y'

/-- The second result's buffer after the four stores and the correction. -/
def res1 : S20000x1.Idx → Elt F .f32 :=
  let y' := VecWindow.put (VecWindow.put y (k0_off1 i) S2000x1.size (out1V (stV (zbV z w) ch (oM o)) (sc1 b)))
    (k0_off2 i) S2000x1.size (out1V (stV (zbV z w) (shV (row0 d15) ch) (oM o)) (sc1 b))
  if isAt i 4#32 = 1#1 then
    VecWindow.put y' ![10000, 0] S1x1.size (fix1V (st1V (row0 (keep16 i w z d16)) (VecWindow.window ch ![1998, 0] S1x128.size inb_S2000x128_S1x128_1998_0) (oM o)) (sc1 b))
  else y'
end

/-- The step is the first, the last, or neither. -/
theorem isAt_cases (i : grid0.Coords) : (isAt i 0#32 = 1#1 ∧ ¬ isAt i 4#32 = 1#1) ∨ (¬ isAt i 0#32 = 1#1 ∧ isAt i 4#32 = 1#1)
    ∨ (¬ isAt i 0#32 = 1#1 ∧ ¬ isAt i 4#32 = 1#1) := by
  unfold isAt
  generalize i 0 = a
  revert a
  decide

/-- The epilogue: from the buffers it reads and writes, to the same with the results' and the two carried rows' buffers changed. -/
theorem wp_epi (c : Dev nD) (i : grid0.Coords)
    (arg5 : Memref sig .tc .vmem S128x128 .bf16) (arg9 : Memref sig .tc .vmem S128x2 .bf16) (arg10 : Memref sig .tc .vmem S1x2 .f32)
    (arg11 arg12 : Memref sig .tc .vmem S20000x1 .f32) (arg13 arg14 : Memref sig .tc .vmem S2000x128 .bf16)
    (arg15 : Memref sig .tc .vmem S8x128 .bf16) (harg15 : arg15.IsWhole) (arg16 : Memref sig .tc .vmem S8x128 .bf16) (harg16 : arg16.IsWhole)
    (w : S128x128.Idx → Elt F .bf16) (o : S128x2.Idx → Elt F .bf16) (b : S1x2.Idx → Elt F .f32)
    (y1 y2 : S20000x1.Idx → Elt F .f32) (z ch : S2000x128.Idx → Elt F .bf16) (d15 d16 : S8x128.Idx → Elt F .bf16)
    (Q : PUnit → sProp 𝕄) :
    iprop(owns (c : Thread nD τ) arg5 fullShare w ∗ owns (c : Thread nD τ) arg9 fullShare o ∗ owns (c : Thread nD τ) arg10 fullShare b
        ∗ owns (c : Thread nD τ) arg11 fullShare y1 ∗ owns (c : Thread nD τ) arg12 fullShare y2
        ∗ owns (c : Thread nD τ) arg13 fullShare z ∗ owns (c : Thread nD τ) arg14 fullShare ch
        ∗ owns (c : Thread nD τ) arg15 fullShare d15 ∗ owns (c : Thread nD τ) arg16 fullShare d16
        ∗ (iprop(owns (c : Thread nD τ) arg5 fullShare w ∗ owns (c : Thread nD τ) arg9 fullShare o ∗ owns (c : Thread nD τ) arg10 fullShare b
            ∗ owns (c : Thread nD τ) arg11 fullShare (res0 i w o b z ch d15 d16 y1) ∗ owns (c : Thread nD τ) arg12 fullShare (res1 i w o b z ch d15 d16 y2)
            ∗ owns (c : Thread nD τ) arg13 fullShare z ∗ owns (c : Thread nD τ) arg14 fullShare ch
            ∗ owns (c : Thread nD τ) arg15 fullShare (keepRow d15 (lastV ch)) ∗ owns (c : Thread nD τ) arg16 fullShare (keep16 i w z d16)) -∗ Q ⟨⟩))
      ⊢ wp frame (wpE (defs₀ (F := F)) Variants.none c none) Set.univ (epi i arg5 arg9 arg10 arg11 arg12 arg13 arg14 arg15 harg15 arg16 harg16) Q := by
  unfold epi owns
  iintro ⟨⟨%f5, %h5, H5⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, Hk⟩
  have hx : (isAt i 0#32 = 1#1 ∧ ¬ isAt i 4#32 = 1#1) ∨ (¬ isAt i 0#32 = 1#1 ∧ isAt i 4#32 = 1#1) ∨ (¬ isAt i 0#32 = 1#1 ∧ ¬ isAt i 4#32 = 1#1) := isAt_cases i
  rcases hx with ⟨hi0, hi4⟩ | ⟨hi0, hi4⟩ | ⟨hi0, hi4⟩ <;> sl_exec <;> sl_unfold_run_names <;> sl_step <;> iapply Hk
  all_goals
    isplitl [H5]; · iexists _; isplitr; swap; · iexact H5
                    ipureintro; exact h5
    isplitl [H9]; · iexists _; isplitr; swap; · iexact H9
                    ipureintro; exact h9
    isplitl [H10]; · iexists _; isplitr; swap; · iexact H10
                     ipureintro; exact h10
    isplitl [H11]; · iexists _; isplitr; swap; · iexact H11
                     ipureintro
                     simp only [res0, keep16, read_writes_put, readAt_window, View.writes_nil, whole2000, whole128, whole2, h5, h9, h10, h11, h13, h14, h15, h16, hi0, hi4, if_true, if_false]
                     rfl
    isplitl [H12]; · iexists _; isplitr; swap; · iexact H12
                     ipureintro
                     simp only [res1, keep16, read_writes_put, readAt_window, View.writes_nil, whole2000, whole128, whole2, h5, h9, h10, h12, h13, h14, h15, h16, hi0, hi4, if_true, if_false]
                     rfl
    isplitl [H13]; · iexists _; isplitr; swap; · iexact H13
                     ipureintro; exact h13
    isplitl [H14]; · iexists _; isplitr; swap; · iexact H14
                     ipureintro; exact h14
    isplitl [H15]; · iexists _; isplitr; swap; · iexact H15
                     ipureintro
                     simp only [keepRow, read_writes_put, readAt_window, View.writes_nil, whole2000, whole128, whole2, h14, h15]
    · iexists _; isplitr; swap; · iexact H16
      ipureintro
      simp only [keep16, keepRow, read_writes_put, readAt_window, View.writes_nil, whole2000, whole128, whole2, h5, h13, h16, hi0, if_true, if_false]

end Cert.KernelIdeal.Body

end
-- ==== Proof.Whole.lean ====
/-
  What the body does after the sub-blocks, and the whole body.
-/
module

public import proofs.«01_k».proof.Proof.Epi

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The window of the whole feature block. -/
theorem wholeX {α : Type} (x : S2000x8x256.Idx → α) (inb) : VecWindow.window x ![0, 0, 0] ![2000, 8, 256] inb = x := window_full x inb
/-- The window of the whole weight matrix. -/
theorem wholeW {α : Type} (x : S256x128.Idx → α) (inb) : VecWindow.window x ![0, 0] ![256, 128] inb = x := window_full x inb
/-- The window of the whole selection matrix. -/
theorem whole48 {α : Type} (x : S48x128.Idx → α) (inb) : VecWindow.window x ![0, 0] ![48, 128] inb = x := window_full x inb
/-- The window of a whole row. -/
theorem whole1 {α : Type} (x : S1x128.Idx → α) (inb) : VecWindow.window x ![0, 0] ![1, 128] inb = x := window_full x inb

section
variable (x : S2000x8x256.Idx → Elt F .f32) (A : S2000x128.Idx → Elt F .bf16) (w : S256x128.Idx → Elt F .bf16) (s : S48x128.Idx → Elt F .bf16)
  (b a mk : S1x128.Idx → Elt F .bf16)

/-- The first scratch after a step's sub-blocks, from the step's input blocks. -/
def zOf : S2000x128.Idx → Elt F .bf16 :=
  zAll (ftsV x w) (shapeCast S48x128 s shapeCasts_S48x128_S48x128) (shapeCast S1x128 b shapeCasts_S1x128_S1x128)
    (shapeCast S1x128 a shapeCasts_S1x128_S1x128) (shapeCast S1x1x128 (shapeCast S1x128 mk shapeCasts_S1x128_S1x128) shapeCasts_S1x128_S1x1x128) A

/-- The second scratch after a step's sub-blocks, from the step's input blocks. -/
def cOf : S2000x128.Idx → Elt F .bf16 :=
  cAll (ftsV x w) (shapeCast S48x128 s shapeCasts_S48x128_S48x128) (shapeCast S1x128 b shapeCasts_S1x128_S1x128)
    (shapeCast S1x128 a shapeCasts_S1x128_S1x128) (shapeCast S1x1x128 (shapeCast S1x128 mk shapeCasts_S1x128_S1x128) shapeCasts_S1x128_S1x1x128) A
end

/-- A memref held at contents is its buffer held at some contents that the memref reads so. -/
theorem owns_open (c : Dev nD) {s : Shape} {e : EltTy} (M : Memref sig .tc .vmem s e) (X : s.Idx → Elt F e) :
    (owns (c : Thread nD τ) M fullShare X : sProp 𝕄)
      = iprop(∃ f, ⌜M.view.read (Elt F) f = X⌝ ∗ M.view.loc (c : Thread nD τ) ↦[M.view.set]{fullShare} f) := rfl

/-- The whole body: from every buffer it is handed, to the same with the results', the scratches' and the carried rows' buffers
    changed. -/
theorem wp_body (c : Dev nD) (i : grid0.Coords)
    (arg1 : Memref sig .tc .vmem S2000x8x256 .f32)
    (arg2 : Memref sig .tc .vmem S2000x128 .bf16)
    (arg3 : Memref sig .tc .vmem S256x128 .bf16)
    (arg4 : Memref sig .tc .vmem S48x128 .bf16)
    (arg5 : Memref sig .tc .vmem S128x128 .bf16)
    (arg6 : Memref sig .tc .vmem S1x128 .bf16)
    (arg7 : Memref sig .tc .vmem S1x128 .bf16)
    (arg8 : Memref sig .tc .vmem S1x128 .bf16)
    (arg9 : Memref sig .tc .vmem S128x2 .bf16)
    (arg10 : Memref sig .tc .vmem S1x2 .f32)
    (arg11 arg12 : Memref sig .tc .vmem S20000x1 .f32) (arg13 : Memref sig .tc .vmem S2000x128 .bf16) (harg13 : arg13.IsWhole)
    (arg14 : Memref sig .tc .vmem S2000x128 .bf16) (harg14 : arg14.IsWhole)
    (arg15 : Memref sig .tc .vmem S8x128 .bf16) (harg15 : arg15.IsWhole) (arg16 : Memref sig .tc .vmem S8x128 .bf16) (harg16 : arg16.IsWhole)
    (x : S2000x8x256.Idx → Elt F .f32)
    (A : S2000x128.Idx → Elt F .bf16)
    (w : S256x128.Idx → Elt F .bf16)
    (s : S48x128.Idx → Elt F .bf16)
    (wk : S128x128.Idx → Elt F .bf16)
    (b : S1x128.Idx → Elt F .bf16)
    (a : S1x128.Idx → Elt F .bf16)
    (mk : S1x128.Idx → Elt F .bf16)
    (o : S128x2.Idx → Elt F .bf16)
    (bk : S1x2.Idx → Elt F .f32)
    (y1 y2 : S20000x1.Idx → Elt F .f32) (z ch : S2000x128.Idx → Elt F .bf16) (d15 d16 : S8x128.Idx → Elt F .bf16)
    (Q : PUnit → sProp 𝕄) :
    iprop(owns (c : Thread nD τ) arg1 fullShare x
        ∗ owns (c : Thread nD τ) arg2 fullShare A
        ∗ owns (c : Thread nD τ) arg3 fullShare w
        ∗ owns (c : Thread nD τ) arg4 fullShare s
        ∗ owns (c : Thread nD τ) arg5 fullShare wk
        ∗ owns (c : Thread nD τ) arg6 fullShare b
        ∗ owns (c : Thread nD τ) arg7 fullShare a
        ∗ owns (c : Thread nD τ) arg8 fullShare mk
        ∗ owns (c : Thread nD τ) arg9 fullShare o
        ∗ owns (c : Thread nD τ) arg10 fullShare bk
        ∗ owns (c : Thread nD τ) arg11 fullShare y1 ∗ owns (c : Thread nD τ) arg12 fullShare y2 ∗ owns (c : Thread nD τ) arg13 fullShare z ∗ owns (c : Thread nD τ) arg14 fullShare ch ∗ owns (c : Thread nD τ) arg15 fullShare d15 ∗ owns (c : Thread nD τ) arg16 fullShare d16
        ∗ (iprop(owns (c : Thread nD τ) arg1 fullShare x
            ∗ owns (c : Thread nD τ) arg2 fullShare A
            ∗ owns (c : Thread nD τ) arg3 fullShare w
            ∗ owns (c : Thread nD τ) arg4 fullShare s
            ∗ owns (c : Thread nD τ) arg5 fullShare wk
            ∗ owns (c : Thread nD τ) arg6 fullShare b
            ∗ owns (c : Thread nD τ) arg7 fullShare a
            ∗ owns (c : Thread nD τ) arg8 fullShare mk
            ∗ owns (c : Thread nD τ) arg9 fullShare o
            ∗ owns (c : Thread nD τ) arg10 fullShare bk
            ∗ owns (c : Thread nD τ) arg11 fullShare (res0 i wk o bk (zOf x A w s b a mk) (cOf x A w s b a mk) d15 d16 y1)
            ∗ owns (c : Thread nD τ) arg12 fullShare (res1 i wk o bk (zOf x A w s b a mk) (cOf x A w s b a mk) d15 d16 y2)
            ∗ owns (c : Thread nD τ) arg13 fullShare (zOf x A w s b a mk) ∗ owns (c : Thread nD τ) arg14 fullShare (cOf x A w s b a mk)
            ∗ owns (c : Thread nD τ) arg15 fullShare (keepRow d15 (lastV (cOf x A w s b a mk)))
            ∗ owns (c : Thread nD τ) arg16 fullShare (keep16 i wk (zOf x A w s b a mk) d16)) -∗ Q ⟨⟩))
      ⊢ wp frame (wpE (defs₀ (F := F)) Variants.none c none) Set.univ
          (body i arg1 arg2 arg3 arg4 arg5 arg6 arg7 arg8 arg9 arg10 arg11 arg12 arg13 harg13 arg14 harg14 arg15 harg15 arg16 harg16) Q := by
  unfold body
  rw [owns_open c arg1 x]
  rw [owns_open c arg3 w]
  rw [owns_open c arg4 s]
  rw [owns_open c arg6 b]
  rw [owns_open c arg7 a]
  rw [owns_open c arg8 mk]
  iintro ⟨H1, H2, H3, H4, H5, H6, H7, H8, H9, H10, H11, H12, H13, H14, H15, H16, Hk⟩
  icases H1 with ⟨%f1, %h1, H1⟩
  icases H3 with ⟨%f3, %h3, H3⟩
  icases H4 with ⟨%f4, %h4, H4⟩
  icases H6 with ⟨%f6, %h6, H6⟩
  icases H7 with ⟨%f7, %h7, H7⟩
  icases H8 with ⟨%f8, %h8, H8⟩
  sl_exec
  sl_unfold_run_names
  simp only [readAt_window, wholeX, wholeW, whole48, whole1, h1, h3, h4, h6, h7, h8]
  iapply (wp_blks c arg2 arg13 harg13 arg14 harg14 _ _ _ _ _ A _ Q 125 0 (by decide) rfl z ch (fun y h => absurd h (by omega)) (fun y h => absurd h (by omega)))
  isplitl [H2]; · iexact H2
  isplitl [H13]; · iexact H13
  isplitl [H14]; · iexact H14
  iintro ⟨H2, H13, H14⟩
  iapply (wp_epi c i arg5 arg9 arg10 arg11 arg12 arg13 arg14 arg15 harg15 arg16 harg16 wk o bk y1 y2 _ _ d15 d16 Q)
  isplitl [H5]; · iexact H5
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H5, H9, H10, H11, H12, H13, H14, H15, H16⟩
  iapply Hk
  isplitl [H1]; · iexists f1; isplitr; swap; · iexact H1
                  ipureintro; exact h1
  isplitl [H2]; · iexact H2
  isplitl [H3]; · iexists f3; isplitr; swap; · iexact H3
                  ipureintro; exact h3
  isplitl [H4]; · iexists f4; isplitr; swap; · iexact H4
                  ipureintro; exact h4
  isplitl [H5]; · iexact H5
  isplitl [H6]; · iexists f6; isplitr; swap; · iexact H6
                  ipureintro; exact h6
  isplitl [H7]; · iexists f7; isplitr; swap; · iexact H7
                  ipureintro; exact h7
  isplitl [H8]; · iexists f8; isplitr; swap; · iexact H8
                  ipureintro; exact h8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.KernelIdeal.Body

end
-- ==== Proof.BodyEq.lean ====
module

public import proofs.«01_k».proof.Proof.Blocks
public import proofs.«01_k».proof.Proof.Gen.KernelIdeal.Skeleton

@[expose] public section
noncomputable section

namespace Cert.KernelIdeal.Body

open Idealize.ShloMosaic Idealize.SL.Sem
open Cert.KernelIdeal Facts₀ Facts

variable {F : FTy → Type} [FloatOps F]

set_option maxRecDepth 1000000 in
set_option maxHeartbeats 0 in
/-- The printed body is the prologue, the 125 sub-blocks and the epilogue. -/
theorem body_eq (i : grid0.Coords) (arg1 : Memref sig .tc .vmem S2000x8x256 .f32) (harg1 : arg1.IsWhole) (arg2 : Memref sig .tc .vmem S2000x128 .bf16) (harg2 : arg2.IsWhole) (arg3 : Memref sig .tc .vmem S256x128 .bf16) (harg3 : arg3.IsWhole) (arg4 : Memref sig .tc .vmem S48x128 .bf16) (harg4 : arg4.IsWhole) (arg5 : Memref sig .tc .vmem S128x128 .bf16) (harg5 : arg5.IsWhole) (arg6 : Memref sig .tc .vmem S1x128 .bf16) (harg6 : arg6.IsWhole) (arg7 : Memref sig .tc .vmem S1x128 .bf16) (harg7 : arg7.IsWhole) (arg8 : Memref sig .tc .vmem S1x128 .bf16) (harg8 : arg8.IsWhole) (arg9 : Memref sig .tc .vmem S128x2 .bf16) (harg9 : arg9.IsWhole) (arg10 : Memref sig .tc .vmem S1x2 .f32) (harg10 : arg10.IsWhole) (arg11 : Memref sig .tc .vmem S20000x1 .f32) (harg11 : arg11.IsWhole) (arg12 : Memref sig .tc .vmem S20000x1 .f32) (harg12 : arg12.IsWhole) (arg13 : Memref sig .tc .vmem S2000x128 .bf16) (harg13 : arg13.IsWhole) (arg14 : Memref sig .tc .vmem S2000x128 .bf16) (harg14 : arg14.IsWhole) (arg15 : Memref sig .tc .vmem S8x128 .bf16) (harg15 : arg15.IsWhole) (arg16 : Memref sig .tc .vmem S8x128 .bf16) (harg16 : arg16.IsWhole) : cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = body i arg1 arg2 arg3 arg4 arg5 arg6 arg7 arg8 arg9 arg10 arg11 arg12 arg13 harg13 arg14 harg14 arg15 harg15 arg16 harg16 := rfl

end Cert.KernelIdeal.Body

end
-- ==== Proof.Data.lean ====
/-
  The proof data of the one launch: what the body may leave in each buffer at each step, and what it carries between steps.
-/
module

public import proofs.«01_k».proof.Proof.Whole
public import proofs.«01_k».proof.Proof.BodyEq
public import Idealize.ShloMosaic.Lib.Pipeline.Frame
public import Idealize.ShloMosaic.Lib.Pipeline.FrameBody

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row of a buffer whose first row was replaced is the replacement. -/
theorem row0_keepRow (d : S8x128.Idx → Elt F .bf16) (r : FVec F S1x128 .bf16) : row0 (keepRow d r) = r := by
  funext y
  have h0 : (y 0).val < 1 := (y 0).isLt
  have h1 : (y 1).val < 128 := (y 1).isLt
  show keepRow d r ((Rect.unit (s := S8x128) ![0, 0] S1x128.size inb_S8x128_S1x128_0_0).emb y) = r y
  unfold keepRow VecWindow.put
  rw [dif_pos (fun a => by
    match a with
    | 0 => exact ⟨Nat.zero_le _, by show 0 + 1 * (y 0).val < 0 + 2; omega⟩
    | 1 => exact ⟨Nat.zero_le _, by show 0 + 1 * (y 1).val < 0 + 128; omega⟩)]
  unfold updateSlice
  rw [dif_pos (fun a => by
    match a with
    | 0 => exact ⟨Nat.zero_le _, by show 0 + 1 * (y 0).val - 0 < 0 + 1; omega⟩
    | 1 => exact ⟨Nat.zero_le _, by show 0 + 1 * (y 1).val - 0 < 0 + 128; omega⟩)]
  refine congrArg r (funext fun a => Fin.ext ?_)
  match a with
  | 0 => show 0 + 1 * (y 0).val - 0 - 0 = (y 0).val; omega
  | 1 => show 0 + 1 * (y 1).val - 0 - 0 = (y 1).val; omega

/-- The first scratch after step `t`'s sub-blocks. -/
def Zt (c : Dev nD) (t : Fin cfg0.N) : S2000x128.Idx → Elt F .bf16 :=
  zOf (iblk m c 0 t) (iblk m c 1 t) (iblk m c 2 t) (iblk m c 3 t) (iblk m c 5 t) (iblk m c 6 t) (iblk m c 7 t)
/-- The second scratch after step `t`'s sub-blocks. -/
def Ct (c : Dev nD) (t : Fin cfg0.N) : S2000x128.Idx → Elt F .bf16 :=
  cOf (iblk m c 0 t) (iblk m c 1 t) (iblk m c 2 t) (iblk m c 3 t) (iblk m c 5 t) (iblk m c 6 t) (iblk m c 7 t)
/-- The first scratch times the bilinear weights at step `t`. -/
def ZBt (c : Dev nD) (t : Fin cfg0.N) : S2000x128.Idx → Elt F .bf16 := zbV (Zt m c t) (iblk m c 4 t)

/-- Before step `t` the carried row is the last row of the step before it. -/
def carried (c : Dev nD) (n : ℕ) (d : S8x128.Idx → Elt F .bf16) : Prop := ∀ u : Fin cfg0.N, u.val + 1 = n → row0 d = lastV (Ct m c u)
/-- After the first step the kept row is the first row of the first step's product. -/
def kept (c : Dev nD) (n : ℕ) (d : S8x128.Idx → Elt F .bf16) : Prop := ∀ u : Fin cfg0.N, u.val = 0 → 0 < n → row0 d = zrowV (ZBt m c u)

/-- What step `t` does to the first result's buffer. -/
def rel0 (c : Dev nD) (t : Fin cfg0.N) (Y X : S20000x1.Idx → Elt F .f32) : Prop :=
  ∃ d15 d16, carried m c t.val d15 ∧ kept m c t.val d16
    ∧ X = res0 (grid0.coords t) (iblk m c 4 t) (iblk m c 8 t) (iblk m c 9 t) (Zt m c t) (Ct m c t) d15 d16 Y
/-- What step `t` does to the second result's buffer. -/
def rel1 (c : Dev nD) (t : Fin cfg0.N) (Y X : S20000x1.Idx → Elt F .f32) : Prop :=
  ∃ d15 d16, carried m c t.val d15 ∧ kept m c t.val d16
    ∧ X = res1 (grid0.coords t) (iblk m c 4 t) (iblk m c 8 t) (iblk m c 9 t) (Zt m c t) (Ct m c t) d15 d16 Y

/-- What the body may leave in each window's buffer: an input's as found, a result's as above. -/
def afterR (c : Dev nD) : (w : Fin cfg0.W) → Fin cfg0.N → (Y X : (cfg0.win w).block.Idx → Elt F (cfg0.win w).elt) → Prop
  | 10, t, Y, X => rel0 m c t Y X
  | 11, t, Y, X => rel1 m c t Y X
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, _, Y, X => X = Y
  | 9, _, Y, X => X = Y

/-- The scratches and the carried rows before step `n`, with the generator's register at some state. -/
def Inv (c : Dev nD) (n : ℕ) : sProp 𝕄 :=
  iprop((∃ z, owns (c : Thread nD τ) (Memref.whole cc0_scratch0) fullShare z)
    ∗ (∃ ch, owns (c : Thread nD τ) (Memref.whole cc0_scratch1) fullShare ch)
    ∗ (∃ d15, ⌜carried m c n d15⌝ ∗ owns (c : Thread nD τ) (Memref.whole cc0_scratch2) fullShare d15)
    ∗ (∃ d16, ⌜kept m c n d16⌝ ∗ owns (c : Thread nD τ) (Memref.whole cc0_scratch3) fullShare d16)
    ∗ (∃ r, prngReg c r))

/-- The proof data on core `c`. -/
def rdat (c : Dev nD) : RDat τ (Elt F) Unit ℕ (UR sig nD τ) ℕ cfg0 c where
  A w := V m c (Pipeline.arrRef spec0 w)
  after := afterR m c
  Φ t := Inv m c t.val
  q _ := fullShare
  owed _ := 0

/-- The launch's own invariant, its buffers one by one. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  unfold Pipeline.ΦA; rw [scopedRest0_eq]; simp only [owns_whole]; try rfl

/-- The launch starts the body at its invariant. -/
theorem hin (c : Dev nD) : (Pipeline.ΦA spec0 c : sProp 𝕄) ⊢ Inv m c 0 := by
  rw [PhiA_eq]; unfold Inv
  iintro ⟨⟨H0, H1, ⟨%d2, H2⟩, ⟨%d3, H3⟩⟩, Hg⟩
  isplitl [H0]; · iexact H0
  isplitl [H1]; · iexact H1
  isplitl [H2]; · iexists d2; isplitr; swap; · iexact H2
                  ipureintro; exact fun u h => absurd h (by omega)
  isplitl [H3]; · iexists d3; isplitr; swap; · iexact H3
                  ipureintro; exact fun u _ h => absurd h (by omega)
  iexact Hg

/-- The invariant gives the launch its scratches back. -/
theorem hout (c : Dev nD) (n : ℕ) : Inv m c n ⊢ (Pipeline.ΦA spec0 c : sProp 𝕄) := by
  rw [PhiA_eq]; unfold Inv
  iintro ⟨H0, H1, ⟨%d2, -, H2⟩, ⟨%d3, -, H3⟩, Hg⟩
  isplitr [Hg]
  · isplitl [H0]; · iexact H0
    isplitl [H1]; · iexact H1
    isplitl [H2]; · iexists d2; iexact H2
    iexists d3; iexact H3
  iexact Hg

/-- A step's coordinate is its number. -/
theorem coords_val (t : Fin cfg0.N) : (grid0.coords t 0).val = t.val := by
  rcases fin_N0 t with rfl | rfl | rfl | rfl | rfl <;> decide

/-- A step's guard against a number below five says whether it is that step. -/
theorem isAt_iff (t : Fin cfg0.N) (k : Fin 5) : isAt (grid0.coords t) (BitVec.ofNat 32 k.val) = 1#1 ↔ t.val = k.val := by
  rw [← coords_val t]
  unfold isAt
  generalize (grid0.coords t 0) = a
  revert a k
  decide

/-- Step `t` is the first exactly when its guard says so. -/
theorem isAt_zero (t : Fin cfg0.N) : isAt (grid0.coords t) 0#32 = 1#1 ↔ t.val = 0 := isAt_iff t 0
/-- Step `t` is the last exactly when its guard says so. -/
theorem isAt_four (t : Fin cfg0.N) : isAt (grid0.coords t) 4#32 = 1#1 ↔ t.val = 4 := isAt_iff t 4

/-- The kept row after a step. -/
theorem kept_succ (c : Dev nD) (t : Fin cfg0.N) (d : S8x128.Idx → Elt F .bf16) (h : kept m c t.val d) :
    kept m c (t.val + 1) (keep16 (grid0.coords t) (iblk m c 4 t) (Zt m c t) d) := by
  intro u hu _
  unfold keep16
  by_cases h0 : t.val = 0
  · rw [if_pos ((isAt_zero t).mpr h0), row0_keepRow]
    have : u = t := Fin.ext (by omega)
    subst this; rfl
  · rw [if_neg (fun e => h0 ((isAt_zero t).mp e))]
    exact h u hu (by omega)

/-- Input window 0 holds its block at every step. -/
theorem finds0 (c : Dev nD) (t : Fin cfg0.N) (X) (h : (rdat m c).Finds 0 t X) : X = iblk m c 0 t := by
  obtain ⟨d, hd⟩ := (rdat m c).finds_in_eq_fetched 0 rfl (fun _ _ _ => rfl) (fun _ _ _ h => h) t X h
  exact hd
/-- Input window 1 holds its block at every step. -/
theorem finds1 (c : Dev nD) (t : Fin cfg0.N) (X) (h : (rdat m c).Finds 1 t X) : X = iblk m c 1 t := by
  obtain ⟨d, hd⟩ := (rdat m c).finds_in_eq_fetched 1 rfl (fun _ _ _ => rfl) (fun _ _ _ h => h) t X h
  exact hd
/-- Input window 2 holds its block at every step. -/
theorem finds2 (c : Dev nD) (t : Fin cfg0.N) (X) (h : (rdat m c).Finds 2 t X) : X = iblk m c 2 t := by
  obtain ⟨d, hd⟩ := (rdat m c).finds_in_eq_fetched 2 rfl (fun _ _ _ => rfl) (fun _ _ _ h => h) t X h
  exact hd
/-- Input window 3 holds its block at every step. -/
theorem finds3 (c : Dev nD) (t : Fin cfg0.N) (X) (h : (rdat m c).Finds 3 t X) : X = iblk m c 3 t := by
  obtain ⟨d, hd⟩ := (rdat m c).finds_in_eq_fetched 3 rfl (fun _ _ _ => rfl) (fun _ _ _ h => h) t X h
  exact hd
/-- Input window 4 holds its block at every step. -/
theorem finds4 (c : Dev nD) (t : Fin cfg0.N) (X) (h : (rdat m c).Finds 4 t X) : X = iblk m c 4 t := by
  obtain ⟨d, hd⟩ := (rdat m c).finds_in_eq_fetched 4 rfl (fun _ _ _ => rfl) (fun _ _ _ h => h) t X h
  exact hd
/-- Input window 5 holds its block at every step. -/
theorem finds5 (c : Dev nD) (t : Fin cfg0.N) (X) (h : (rdat m c).Finds 5 t X) : X = iblk m c 5 t := by
  obtain ⟨d, hd⟩ := (rdat m c).finds_in_eq_fetched 5 rfl (fun _ _ _ => rfl) (fun _ _ _ h => h) t X h
  exact hd
/-- Input window 6 holds its block at every step. -/
theorem finds6 (c : Dev nD) (t : Fin cfg0.N) (X) (h : (rdat m c).Finds 6 t X) : X = iblk m c 6 t := by
  obtain ⟨d, hd⟩ := (rdat m c).finds_in_eq_fetched 6 rfl (fun _ _ _ => rfl) (fun _ _ _ h => h) t X h
  exact hd
/-- Input window 7 holds its block at every step. -/
theorem finds7 (c : Dev nD) (t : Fin cfg0.N) (X) (h : (rdat m c).Finds 7 t X) : X = iblk m c 7 t := by
  obtain ⟨d, hd⟩ := (rdat m c).finds_in_eq_fetched 7 rfl (fun _ _ _ => rfl) (fun _ _ _ h => h) t X h
  exact hd
/-- Input window 8 holds its block at every step. -/
theorem finds8 (c : Dev nD) (t : Fin cfg0.N) (X) (h : (rdat m c).Finds 8 t X) : X = iblk m c 8 t := by
  obtain ⟨d, hd⟩ := (rdat m c).finds_in_eq_fetched 8 rfl (fun _ _ _ => rfl) (fun _ _ _ h => h) t X h
  exact hd
/-- Input window 9 holds its block at every step. -/
theorem finds9 (c : Dev nD) (t : Fin cfg0.N) (X) (h : (rdat m c).Finds 9 t X) : X = iblk m c 9 t := by
  obtain ⟨d, hd⟩ := (rdat m c).finds_in_eq_fetched 9 rfl (fun _ _ _ => rfl) (fun _ _ _ h => h) t X h
  exact hd

/-- The carried row after a step. -/
theorem carried_succ (c : Dev nD) (t : Fin cfg0.N) (d : S8x128.Idx → Elt F .bf16) : carried m c (t.val + 1) (keepRow d (lastV (Ct m c t))) := by
  intro u hu
  rw [row0_keepRow]
  have : u = t := Fin.ext (by omega)
  subst this; rfl

/-- The body table's row at a step is the body. -/
theorem defs_row (t : Fin cfg0.N) : defs₀ (F := F) .tc cfg0.body (cfg0.bodyArgs t (cfg0.slots t)) = bodyAt0 t := by
  unfold defs₀; rw [Defs.onTc_tc]

/-- What the body is handed at step `t`, given what the buffers hold. -/
def preB (c : Dev nD) (t : Fin cfg0.N) (Y : (w : Fin cfg0.W) → (cfg0.win w).block.Idx → Elt F (cfg0.win w).elt) : sProp 𝕄 :=
  iprop(Inv m c t.val ∗ (rdat m c).owesAt () t.castSucc
    ∗ (owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare (iblk m c 6 t)
      ∗ owns (c : Thread nD τ) (st0_7 t) fullShare (iblk m c 7 t)
      ∗ owns (c : Thread nD τ) (st0_8 t) fullShare (iblk m c 8 t)
      ∗ owns (c : Thread nD τ) (st0_9 t) fullShare (iblk m c 9 t)
      ∗ owns (c : Thread nD τ) (st0_10 t) fullShare (Y 10) ∗ owns (c : Thread nD τ) (st0_11 t) fullShare (Y 11)))
/-- What the body hands back at step `t`. -/
def postB (c : Dev nD) (t : Fin cfg0.N) (Y : (w : Fin cfg0.W) → (cfg0.win w).block.Idx → Elt F (cfg0.win w).elt) : sProp 𝕄 :=
  iprop(Inv m c (t.val + 1) ∗ (rdat m c).owesAt () t.castSucc
    ∗ (owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare (iblk m c 4 t)
      ∗ owns (c : Thread nD τ) (st0_5 t) fullShare (iblk m c 5 t)
      ∗ owns (c : Thread nD τ) (st0_6 t) fullShare (iblk m c 6 t)
      ∗ owns (c : Thread nD τ) (st0_7 t) fullShare (iblk m c 7 t)
      ∗ owns (c : Thread nD τ) (st0_8 t) fullShare (iblk m c 8 t)
      ∗ owns (c : Thread nD τ) (st0_9 t) fullShare (iblk m c 9 t)
      ∗ (∃ X, ⌜rel0 m c t (Y 10) X⌝ ∗ owns (c : Thread nD τ) (st0_10 t) fullShare X)
      ∗ (∃ X, ⌜rel1 m c t (Y 11) X⌝ ∗ owns (c : Thread nD τ) (st0_11 t) fullShare X)))

/-- The body at a step, from what it is handed to what it hands back. -/
theorem sound_body (c : Dev nD) (t : Fin cfg0.N) (Y : (w : Fin cfg0.W) → (cfg0.win w).block.Idx → Elt F (cfg0.win w).elt) :
    preB m c t Y ⊢ wp frame (wpE (defs₀ (F := F)) Variants.none c none) Set.univ (bodyAt0 t) (fun _ => postB m c t Y) := by
  unfold preB postB bodyAt0 Inv
  rw [body_eq]
  iintro ⟨⟨⟨%z, S0⟩, ⟨%ch, S1⟩, ⟨%d15, %hd15, S2⟩, ⟨%d16, %hd16, S3⟩, Hg⟩, HO, ⟨H0, H1, H2, H3, H4, H5, H6, H7, H8, H9, H10, H11⟩⟩
  iapply (wp_body c (grid0.coords t) (st0_0 t) (st0_1 t) (st0_2 t) (st0_3 t) (st0_4 t) (st0_5 t) (st0_6 t) (st0_7 t) (st0_8 t) (st0_9 t) (st0_10 t) (st0_11 t) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (Y 10) (Y 11) z ch d15 d16 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0]; · iexists _; iexact S0
    isplitl [S1]; · iexists _; iexact S1
    isplitl [S2]; · iexists _; isplitr; swap; · iexact S2
                    ipureintro; exact carried_succ m c t d15
    isplitl [S3]; · iexists _; isplitr; swap; · iexact S3
                    ipureintro; exact kept_succ m c t d16 hd16
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; isplitr; swap; · iexact H10
                   ipureintro; exact ⟨d15, d16, hd15, hd16, rfl⟩
  iexists _; isplitr; swap; · iexact H11
  ipureintro; exact ⟨d15, d16, hd15, hd16, rfl⟩

/-- The body obligation. -/
theorem body_obligation (c : Dev nD) : (rdat m c).BodyObligation (defs₀ (F := F)) Variants.none () Set.univ := fun t Y hY => by
  rw [bigSep_W0, bigSep_W0, defs_row]
  refine triple_restated (sound_body m c t Y) rfl ?_ fun _ => ?_
  · unfold preB
    rw [← finds0 m c t (Y 0) (hY 0), ← finds1 m c t (Y 1) (hY 1), ← finds2 m c t (Y 2) (hY 2), ← finds3 m c t (Y 3) (hY 3), ← finds4 m c t (Y 4) (hY 4), ← finds5 m c t (Y 5) (hY 5), ← finds6 m c t (Y 6) (hY 6), ← finds7 m c t (Y 7) (hY 7), ← finds8 m c t (Y 8) (hY 8), ← finds9 m c t (Y 9) (hY 9)]
    exact .rfl
  · unfold postB
    rw [show (rdat m c).Φ t.succ = Inv m c (t.val + 1) from rfl]
    iintro ⟨HI, HO, ⟨H0, H1, H2, H3, H4, H5, H6, H7, H8, H9, H10, H11⟩⟩
    isplitl [HI]; · iexact HI
    isplitl [HO]; · iexact HO
    isplitl [H0]; · iexists _; isplitr; swap; · iexact H0
                    ipureintro; exact (finds0 m c t (Y 0) (hY 0)).symm
    isplitl [H1]; · iexists _; isplitr; swap; · iexact H1
                    ipureintro; exact (finds1 m c t (Y 1) (hY 1)).symm
    isplitl [H2]; · iexists _; isplitr; swap; · iexact H2
                    ipureintro; exact (finds2 m c t (Y 2) (hY 2)).symm
    isplitl [H3]; · iexists _; isplitr; swap; · iexact H3
                    ipureintro; exact (finds3 m c t (Y 3) (hY 3)).symm
    isplitl [H4]; · iexists _; isplitr; swap; · iexact H4
                    ipureintro; exact (finds4 m c t (Y 4) (hY 4)).symm
    isplitl [H5]; · iexists _; isplitr; swap; · iexact H5
                    ipureintro; exact (finds5 m c t (Y 5) (hY 5)).symm
    isplitl [H6]; · iexists _; isplitr; swap; · iexact H6
                    ipureintro; exact (finds6 m c t (Y 6) (hY 6)).symm
    isplitl [H7]; · iexists _; isplitr; swap; · iexact H7
                    ipureintro; exact (finds7 m c t (Y 7) (hY 7)).symm
    isplitl [H8]; · iexists _; isplitr; swap; · iexact H8
                    ipureintro; exact (finds8 m c t (Y 8) (hY 8)).symm
    isplitl [H9]; · iexists _; isplitr; swap; · iexact H9
                    ipureintro; exact (finds9 m c t (Y 9) (hY 9)).symm
    isplitl [H10]; · iexact H10
    iexact H11

end Cert.KernelIdeal.Body

end
-- ==== Proof.Run.lean ====
/-
  The launch run to its end, at any element values: it terminates, faults nowhere, leaves its arguments as it found them, and
  leaves the results' arrays at what the five steps' relations say.
-/
module

public import proofs.«01_k».proof.Proof.Data
public import Idealize.ShloMosaic.Lib.Pipeline.ArrRel

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every fair execution ends, with the arrays as the relations say, every other buffer as the launch found it, and every
    counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => body_obligation m c) (hshare := fun c w => by unfold RDat.share; split <;> rfl)
    (howed := fun _ _ => rfl) (V := V m) (hmain := hmain m Variants.none) (hA := fun _ _ => rfl)
    (hin := fun c => hin m c) (hout := fun c => hout m c _) (hQ' := fun _ h => h)

/-- The arguments of the kernel after the run are as before it. -/
def Frame (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)

/-- An argument that no window stages is as before the run. -/
theorem rest_eq {r : PUnit × MemSt nD τ sig (Elt F)} (h : Pipeline.RDat.FramePost (cfgs 0) (rdat m) (V m) r) (c : Dev nD) (b : Ref sig .tc)
    (h1 : b ∈ Pipeline.restRefs sig spec0) (h2 : V m c b = m ((c.tc : Thread nD τ).loc b)) :
    r.2.mem ((c.tc : Thread nD τ).loc b) = m ((c.tc : Thread nD τ).loc b) := ((h c).2 b h1).trans h2

/-- The run's arguments are as before it. -/
theorem frame_post {r : PUnit × MemSt nD τ sig (Elt F)} (h : Pipeline.RDat.FramePost (cfgs 0) (rdat m) (V m) r) : Frame m r := fun c =>
  ⟨(h.arr_in c 0 rfl).trans (V_main_arg0 m c),
   rest_eq m h c main_arg1 (Pipeline.mem_restRefs_of main_arg1 (by decide) (by decide)) (V_main_arg1 m c),
   rest_eq m h c main_arg2 (Pipeline.mem_restRefs_of main_arg2 (by decide) (by decide)) (V_main_arg2 m c),
   rest_eq m h c main_arg3 (Pipeline.mem_restRefs_of main_arg3 (by decide) (by decide)) (V_main_arg3 m c),
   rest_eq m h c main_arg4 (Pipeline.mem_restRefs_of main_arg4 (by decide) (by decide)) (V_main_arg4 m c),
   rest_eq m h c main_arg5 (Pipeline.mem_restRefs_of main_arg5 (by decide) (by decide)) (V_main_arg5 m c),
   rest_eq m h c main_arg6 (Pipeline.mem_restRefs_of main_arg6 (by decide) (by decide)) (V_main_arg6 m c),
   rest_eq m h c main_arg7 (Pipeline.mem_restRefs_of main_arg7 (by decide) (by decide)) (V_main_arg7 m c),
   rest_eq m h c main_arg8 (Pipeline.mem_restRefs_of main_arg8 (by decide) (by decide)) (V_main_arg8 m c),
   rest_eq m h c main_arg9 (Pipeline.mem_restRefs_of main_arg9 (by decide) (by decide)) (V_main_arg9 m c),
   rest_eq m h c main_arg10 (Pipeline.mem_restRefs_of main_arg10 (by decide) (by decide)) (V_main_arg10 m c),
   rest_eq m h c main_arg11 (Pipeline.mem_restRefs_of main_arg11 (by decide) (by decide)) (V_main_arg11 m c)⟩

/-- The frame of the run. -/
theorem run_frame : θ_run defs (onTc (τ := τ) (main (F := F))) (s₀ m ρ) (fun r => Frame m r ∧ r.2.sem = fun _ => 0) :=
  (θ_run defs _ _).mono (fun _ h => ⟨frame_post m h.1, h.2⟩) (run_main m ρ)

end Cert.KernelIdeal.Body

end
-- ==== Proof.Frames.lean ====
/-
  The frame of the kernel at the machine's own words: the run of the idealized program is stated at any element values, and the
  two programs are one text.
-/
module

public import proofs.«01_k».proof.Proof.Run
public import proofs.«01_k».proof.Proof.Gen.Kernel
public import proofs.«01_k».proof.Defs

@[expose] public section

noncomputable section

namespace Cert.Proof

open Idealize.ShloMosaic Idealize.SL.Sem

attribute [local instance] Cert.Kernel.Gen.facts Cert.KernelIdeal.Gen.facts Cert.Kernel.Gen.facts₀ Cert.KernelIdeal.Gen.facts₀

set_option maxRecDepth 1000000 in
set_option maxHeartbeats 0 in
/-- The two programs' bodies are one. -/
theorem body_same : @Cert.Kernel.cc0__body Bits _ _ = @Cert.KernelIdeal.cc0__body Bits _ _ := rfl

set_option maxRecDepth 1000000 in
set_option maxHeartbeats 0 in
/-- The two programs' body tables are one. -/
theorem table_same : @Cert.Kernel.defs₀ Bits _ _ = @Cert.KernelIdeal.defs₀ Bits _ _ := by
  unfold Cert.Kernel.defs₀ Cert.KernelIdeal.defs₀
  refine congrArg Defs.onTc (funext fun l => funext fun x => ?_)
  match l, x with
  | 0, (t, s) => rw [body_same]; rfl

set_option maxRecDepth 1000000 in
set_option maxHeartbeats 0 in
/-- The two programs' whole tables are one. -/
theorem defs_same : @Cert.Kernel.defs Bits _ _ = @Cert.KernelIdeal.defs Bits _ _ := congrArg (Pipeline.defs Cert.KernelIdeal.pcfgs) table_same

set_option maxRecDepth 1000000 in
set_option maxHeartbeats 0 in
/-- The two programs' mains are one. -/
theorem main_same : @Cert.Kernel.main Bits _ _ = @Cert.KernelIdeal.main Bits _ _ := rfl

set_option maxRecDepth 1000000 in
set_option maxHeartbeats 0 in
/-- The kernel's frame at the machine's words, with every counter at zero. -/
theorem quiescent_kernel : Cert.quiescent_Kernel := fun m g _ => by
  have h := Cert.KernelIdeal.Body.run_frame (F := Bits) m g
  rw [← defs_same, ← main_same] at h
  exact h

/-- The idealized kernel's frame, with every counter at zero. -/
theorem quiescent_kernelIdeal : Cert.quiescent_KernelIdeal := fun m g _ => Cert.KernelIdeal.Body.run_frame (F := Ideal) m g

end Cert.Proof

end
-- ==== Proof.Sums.lean ====
/-
  Sums over the extended reals: a sum over 128 lanes read as 16 groups of 8 or two halves of 64, and products with zero-one rows.
-/
module

public import Mathlib.Data.EReal.Operations
public import Mathlib.Algebra.BigOperators.Fin
public import Mathlib.Logic.Equiv.Fin.Basic

@[expose] public section

noncomputable section

namespace Cert.KernelIdeal.Body

/-- A sum over 128 lanes, 16 groups of 8. -/
theorem sum_groups (f : Fin 128 → EReal) : ∑ r, f r = ∑ n : Fin 16, ∑ k : Fin 8, f ⟨8 * n.val + k.val, by omega⟩ := by
  rw [← Fintype.sum_prod_type', ← (finProdFinEquiv (m := 16) (n := 8)).sum_comp (fun r : Fin 128 => f r)]
  refine Finset.sum_congr rfl fun x _ => congrArg f (Fin.ext ?_)
  show x.2.val + 8 * x.1.val = 8 * x.1.val + x.2.val
  omega

/-- A sum over 128 lanes, two halves of 64. -/
theorem sum_halves (f : Fin 128 → EReal) :
    ∑ r, f r = ∑ k : Fin 64, f ⟨k.val, by omega⟩ + ∑ k : Fin 64, f ⟨64 + k.val, by omega⟩ :=
  Fin.sum_univ_add (a := 64) (b := 64) f

/-- A sum over 128 lanes that vanishes outside one group of 8. -/
theorem sum_one_group (f : Fin 128 → EReal) (i : Fin 16) (h : ∀ r : Fin 128, r.val / 8 ≠ i.val → f r = 0) :
    ∑ r, f r = ∑ k : Fin 8, f ⟨8 * i.val + k.val, by omega⟩ := by
  rw [sum_groups]
  refine Finset.sum_eq_single i (fun n _ hn => Finset.sum_eq_zero fun k _ => h _ ?_) (fun hi => absurd (Finset.mem_univ i) hi)
  intro e
  refine hn (Fin.ext ?_)
  have : (8 * n.val + k.val) / 8 = n.val := by omega
  rw [← this]; exact e

/-- A sum over 128 lanes that vanishes outside one lane. -/
theorem sum_one_lane (f : Fin 128 → EReal) (i : Fin 128) (h : ∀ r : Fin 128, r ≠ i → f r = 0) : ∑ r, f r = f i :=
  Finset.sum_eq_single i (fun n _ hn => h n hn) (fun hi => absurd (Finset.mem_univ i) hi)

/-- A sum over 128 lanes that vanishes on the upper half. -/
theorem sum_lower (f : Fin 128 → EReal) (h : ∀ k : Fin 64, f ⟨64 + k.val, by omega⟩ = 0) :
    ∑ r, f r = ∑ k : Fin 64, f ⟨k.val, by omega⟩ := by
  rw [sum_halves, Finset.sum_eq_zero (fun k _ => h k), add_zero]

/-- A sum over 128 lanes that vanishes on the lower half. -/
theorem sum_upper (f : Fin 128 → EReal) (h : ∀ k : Fin 64, f ⟨k.val, by omega⟩ = 0) :
    ∑ r, f r = ∑ k : Fin 64, f ⟨64 + k.val, by omega⟩ := by
  rw [sum_halves, Finset.sum_eq_zero (fun k _ => h k), zero_add]

/-- Multiplying a finite sum by a real number that is not negative. -/
theorem mul_sum_real {n : ℕ} (c : ℝ) (hc : 0 ≤ c) (f : Fin n → EReal) : ∑ k, (c : EReal) * f k = (c : EReal) * ∑ k, f k := by
  induction n with
  | zero => simp
  | succ n ih =>
    rw [Fin.sum_univ_succ, Fin.sum_univ_succ, ih, EReal.left_distrib_of_nonneg_of_ne_top (EReal.coe_nonneg.mpr hc) (EReal.coe_ne_top c)]

/-- The last seven of eight terms, each times `c`, in the opposite order. -/
theorem sum_last_seven (c : ℝ) (hc : 0 ≤ c) (w g : Fin 8 → EReal) (h0 : w 0 = 0) (h : ∀ k, k ≠ 0 → w k = c) :
    ∑ k, w k * g k = (∑ s : Fin 7, g ⟨7 - s.val, by omega⟩) * (c : EReal) := by
  rw [Fin.sum_univ_succ, h0, zero_mul, zero_add, Finset.sum_congr rfl (fun k _ => by rw [h k.succ (Fin.succ_ne_zero k)]), mul_sum_real c hc, EReal.mul_comm]
  congr 1
  rw [← Equiv.sum_comp Fin.revPerm]
  refine Finset.sum_congr rfl fun k _ => congrArg g (Fin.ext ?_)
  show (Fin.rev k).val + 1 = 7 - k.val
  rw [Fin.val_rev]; omega

end Cert.KernelIdeal.Body

end
-- ==== Proof.BlockVal.lean ====
/-
  What one sub-block computes, element by element, over the extended reals: the activations of its 16 graphs' nodes, the
  mean over the first seven nodes and the last two nodes.
-/
module

public import proofs.«01_k».proof.Proof.Whole
public import proofs.«01_k».proof.Proof.Sums
public import Idealize.ShloMosaic.Lib.Pointwise

@[expose] public section

set_option maxRecDepth 16384

noncomputable section

namespace Cert.KernelIdeal.Body

open Idealize.ShloMosaic Idealize.SL.Sem
open Cert.KernelIdeal Cert.KernelIdeal.Gen

/-- The pattern of seven. -/
theorem ofBits_seven : Ideal.ofBits .f32 0x40E00000#32 = ((7 : ℝ) : EReal) := by
  simp [Ideal.ofBits, Ideal.ieee, -EReal.coe_mul]; norm_num

/-- PReLU over the extended reals. -/
def prelu (a y : EReal) : EReal := if 0 ≤ y then y else a * y

/-- The mask of the eight lanes in the middle. -/
def IsMask (mk : S1x128.Idx → EReal) : Prop := ∀ l : Fin 128, mk (ix2 0 l) = if 64 ≤ l.val ∧ l.val < 72 then 1 else 0

/-- The selector's rows: the mean over a group's last seven rows, its first row, its second row. -/
structure IsSel (s : S48x128.Idx → EReal) : Prop where
  mean : ∀ (i : Fin 16) (r : Fin 128), s (ix2 ⟨i.val, by omega⟩ r) = if r.val / 8 = i.val ∧ r.val % 8 ≠ 0 then ((1 / 7 : ℝ) : EReal) else 0
  fst : ∀ (i : Fin 16) (r : Fin 128), s (ix2 ⟨16 + i.val, by omega⟩ r) = if r.val = 8 * i.val then 1 else 0
  snd : ∀ (i : Fin 16) (r : Fin 128), s (ix2 ⟨32 + i.val, by omega⟩ r) = if r.val = 8 * i.val + 1 then 1 else 0

/-- A masked lane: kept where the graphs agree, zero elsewhere. -/
theorem bd_lane (v16 : FVec Ideal S1x1x128 .bf16) (a : Vec Ideal S16x128 .bf16)
    (hm : ∀ l : Fin 128, v16 (ix3 0 0 l) = if 64 ≤ l.val ∧ l.val < 72 then 1 else 0) (r c q1 q2 : Fin 128)
    (h1 : c.val / 8 = r.val / 8 → 64 ≤ q1.val ∧ q1.val < 72) (h2 : c.val / 8 ≠ r.val / 8 → ¬ (64 ≤ q1.val ∧ q1.val < 72))
    (h3 : c.val / 8 = r.val / 8 → q2.val = 8 * (7 - r.val % 8) + c.val % 8) :
    a (ix2 ⟨r.val / 8, by omega⟩ q2) * v16 (ix3 0 0 q1)
      = if c.val / 8 = r.val / 8 then a (ix2 ⟨r.val / 8, by omega⟩ ⟨8 * (7 - r.val % 8) + c.val % 8, by omega⟩) else 0 := by
  rw [hm q1]
  by_cases h : c.val / 8 = r.val / 8
  · rw [if_pos h, if_pos (h1 h), mul_one, show q2 = ⟨8 * (7 - r.val % 8) + c.val % 8, by omega⟩ from Fin.ext (h3 h)]
  · rw [if_neg h, if_neg (h2 h), mul_zero]

/-- The block diagonal adjacency: graph `r / 8`'s rows, the last node first, and zero off the diagonal. -/
theorem bdV_apply (v16 : FVec Ideal S1x1x128 .bf16) (a : Vec Ideal S16x128 .bf16)
    (hm : ∀ l : Fin 128, v16 (ix3 0 0 l) = if 64 ≤ l.val ∧ l.val < 72 then 1 else 0) (r c : Fin 128) :
    bdV v16 a (ix2 r c) = if c.val / 8 = r.val / 8 then a (ix2 ⟨r.val / 8, by omega⟩ ⟨8 * (7 - r.val % 8) + c.val % 8, by omega⟩) else 0 := by
  pointwise [bdV]
  exact bd_lane v16 a hm r c _ _ (fun h => by dsimp only; omega) (fun h => by dsimp only; omega) (fun h => by dsimp only; omega)

/-- The activations before PReLU. -/
theorem yV_apply (v11 : FVec Ideal S1x128 .bf16) (bd x : FVec Ideal S128x128 .bf16) (r c : Fin 128) :
    yV v11 bd x (ix2 r c) = ∑ k, bd (ix2 r k) * x (ix2 k c) + v11 (ix2 0 c) := by
  pointwise [yV]

/-- PReLU at an element. -/
theorem actV_apply (v13 : FVec Ideal S1x128 .bf16) (y : FVec Ideal S128x128 .bf16) (r c : Fin 128) :
    actV v13 y (ix2 r c) = prelu (v13 (ix2 0 c)) (y (ix2 r c)) := by
  unfold prelu
  pointwise [actV]

/-- The selected rows. -/
theorem rV_apply (s : FVec Ideal S48x128 .bf16) (h : FVec Ideal S128x128 .bf16) (r : Fin 48) (c : Fin 128) :
    rV s h (ix2 r c) = ∑ k, s (ix2 r k) * h (ix2 k c) := by
  pointwise [rV]

/-- The middle third of the selected rows. -/
theorem zV_apply (r : FVec Ideal S48x128 .bf16) (i : Fin 16) (l : Fin 128) : zV r (ix2 i l) = r (ix2 ⟨16 + i.val, by omega⟩ l) := by
  pointwise [zV]

/-- The first third's left half beside the last third's right half. -/
theorem cV_apply (r : FVec Ideal S48x128 .bf16) (i : Fin 16) (l : Fin 128) :
    cV r (ix2 i l) = if l.val < 64 then r (ix2 ⟨i.val, by omega⟩ l) else r (ix2 ⟨32 + i.val, by omega⟩ l) := by
  pointwise [cV]
  split
  · rfl
  · congr 2
    apply Fin.ext
    dsimp only
    omega

/-- A row's features. -/
theorem ftsV_apply (x : Vec Ideal S2000x8x256 .f32) (w : Vec Ideal S256x128 .bf16) (p : Fin 16000) (l : Fin 128) :
    ftsV x w (ix2 p l) = ∑ i, x (ix3 ⟨p.val / 8, by omega⟩ ⟨p.val % 8, by omega⟩ i) * w (ix2 i l) := by
  pointwise [ftsV]

/-- The activation of node `s` of graph `p` of a block, at lane `l`. -/
def act (x : S2000x8x256.Idx → EReal) (A : S2000x128.Idx → EReal) (w : S256x128.Idx → EReal) (b a : S1x128.Idx → EReal) (p : Fin 2000) (s : Fin 8) (l : Fin 128) : EReal :=
  prelu (a (ix2 0 l)) (∑ k : Fin 8, A (ix2 p ⟨8 * s.val + k.val, by omega⟩) * (∑ i, x (ix3 p k i) * w (ix2 i l)) + b (ix2 0 l))

section
variable (x : Vec Ideal S2000x8x256 .f32) (A : Vec Ideal S2000x128 .bf16) (w : Vec Ideal S256x128 .bf16) (b a : Vec Ideal S1x128 .bf16)
  (s : FVec Ideal S48x128 .bf16) (v11 v13 : FVec Ideal S1x128 .bf16) (v16 : FVec Ideal S1x1x128 .bf16)

/-- The activations of sub-block `j`: row `r` is node `7 - r % 8` of graph `16 j + r / 8`. -/
theorem act_rows (hm : ∀ l : Fin 128, v16 (ix3 0 0 l) = if 64 ≤ l.val ∧ l.val < 72 then 1 else 0) (j : ℕ) (hj : j < 125) (r l : Fin 128) :
    actV v13 (yV v11 (bdV v16 (winA A j hj)) (extractStridedSlice S128x128 ![128 * j, 0] (ftsV x w) (slices128 j hj))) (ix2 r l)
      = act x A w v11 v13 ⟨16 * j + r.val / 8, by omega⟩ ⟨7 - r.val % 8, by omega⟩ l := by
  rw [actV_apply, yV_apply]
  unfold act
  congr 2
  rw [sum_one_group _ ⟨r.val / 8, by omega⟩ (fun c hc => by rw [bdV_apply _ _ hm, if_neg hc, zero_mul])]
  refine Finset.sum_congr rfl fun k _ => ?_
  rw [bdV_apply _ _ hm, if_pos (by dsimp only; omega)]
  congr 1
  · refine congrArg A (funext fun d => Fin.ext ?_)
    match d with
    | 0 => show 16 * j + 1 * (r.val / 8) = 16 * j + r.val / 8; omega
    | 1 => show 0 + 1 * (8 * (7 - r.val % 8) + (8 * (r.val / 8) + k.val) % 8) = 8 * (7 - r.val % 8) + k.val; omega
  · have e : extractStridedSlice S128x128 ![128 * j, 0] (ftsV x w) (slices128 j hj) (ix2 ⟨8 * (r.val / 8) + k.val, by omega⟩ l)
        = ftsV x w (ix2 ⟨128 * j + (8 * (r.val / 8) + k.val), by omega⟩ l) := by
      refine congrArg (ftsV x w) (funext fun d => Fin.ext ?_)
      match d with
      | 0 => rfl
      | 1 => show 0 + l.val = l.val; omega
    rw [e, ftsV_apply]
    refine Finset.sum_congr rfl fun i _ => ?_
    congr 2
    refine congrArg₂ (fun p q => ix3 p q i) (Fin.ext ?_) (Fin.ext ?_)
    · dsimp only; omega
    · dsimp only; omega

end

section
variable (x : Vec Ideal S2000x8x256 .f32) (A : Vec Ideal S2000x128 .bf16) (w : Vec Ideal S256x128 .bf16) (s : Vec Ideal S48x128 .bf16) (b a mk : Vec Ideal S1x128 .bf16)

/-- The first scratch: the last node's activations. -/
theorem zOf_apply (hs : IsSel s) (hm : IsMask mk) (p : Fin 2000) (l : Fin 128) :
    zOf x A w s b a mk (ix2 p l) = act x A w b a p 7 l := by
  have hm' : ∀ l : Fin 128, shapeCast S1x1x128 (shapeCast S1x128 mk shapeCasts_S1x128_S1x128) shapeCasts_S1x128_S1x1x128 (ix3 0 0 l)
      = if 64 ≤ l.val ∧ l.val < 72 then 1 else 0 := fun l => by pointwise; exact hm l
  have e : rowIn (ix2 p l : S2000x128.Idx) = ix2 ⟨p.val % 16, by omega⟩ l := by
    funext d
    match d with
    | 0 => rfl
    | 1 => rfl
  unfold zOf zAll rowsV
  rw [e, zV_apply, rV_apply, sum_one_lane _ ⟨8 * (p.val % 16), by omega⟩ (fun r hr => by
    rw [shapeCast_self, hs.fst ⟨p.val % 16, by omega⟩ r, if_neg (fun h => hr (Fin.ext h)), zero_mul]),
    shapeCast_self, hs.fst ⟨p.val % 16, by omega⟩, if_pos rfl, one_mul, shapeCast_self, shapeCast_self, act_rows x A w _ _ _ hm']
  congr 1
  · apply Fin.ext
    show 16 * (p.val / 16) + 8 * (p.val % 16) / 8 = p.val
    omega
  · apply Fin.ext
    show 7 - 8 * (p.val % 16) % 8 = 7
    omega

/-- The second scratch: on the left the mean over the first seven nodes, on the right the last node but one. -/
theorem cOf_apply (hs : IsSel s) (hm : IsMask mk) (p : Fin 2000) (l : Fin 128) :
    cOf x A w s b a mk (ix2 p l) = if l.val < 64 then (∑ n : Fin 7, act x A w b a p ⟨n.val, by omega⟩ l) * ((1 / 7 : ℝ) : EReal) else act x A w b a p 6 l := by
  have hm' : ∀ l : Fin 128, shapeCast S1x1x128 (shapeCast S1x128 mk shapeCasts_S1x128_S1x128) shapeCasts_S1x128_S1x1x128 (ix3 0 0 l)
      = if 64 ≤ l.val ∧ l.val < 72 then 1 else 0 := fun l => by pointwise; exact hm l
  have e : rowIn (ix2 p l : S2000x128.Idx) = ix2 ⟨p.val % 16, by omega⟩ l := by
    funext d
    match d with
    | 0 => rfl
    | 1 => rfl
  unfold cOf cAll rowsV
  rw [e, cV_apply]
  refine if_congr Iff.rfl ?_ ?_
  · rw [rV_apply, sum_one_group _ ⟨p.val % 16, by omega⟩ (fun r hr => by
      rw [shapeCast_self, hs.mean ⟨p.val % 16, by omega⟩ r, if_neg (fun h => hr h.1), zero_mul]),
      sum_last_seven (1 / 7) (by norm_num) (fun k => _) (fun k => _) (by
        rw [shapeCast_self, hs.mean ⟨p.val % 16, by omega⟩, if_neg (by show ¬ (_ ∧ (8 * (p.val % 16) + 0) % 8 ≠ 0); omega)])
        (fun k hk => by
          have : k.val ≠ 0 := fun h => hk (Fin.ext h)
          rw [shapeCast_self, hs.mean ⟨p.val % 16, by omega⟩, if_pos (by dsimp only; omega)])]
    congr 1
    refine Finset.sum_congr rfl fun n _ => ?_
    rw [shapeCast_self, shapeCast_self, act_rows x A w _ _ _ hm']
    congr 1
    · apply Fin.ext
      show 16 * (p.val / 16) + (8 * (p.val % 16) + (7 - n.val)) / 8 = p.val
      omega
    · apply Fin.ext
      show 7 - (8 * (p.val % 16) + (7 - n.val)) % 8 = n.val
      omega
  · rw [rV_apply, sum_one_lane _ ⟨8 * (p.val % 16) + 1, by omega⟩ (fun r hr => by
      rw [shapeCast_self, hs.snd ⟨p.val % 16, by omega⟩ r, if_neg (fun h => hr (Fin.ext h)), zero_mul]),
      shapeCast_self, hs.snd ⟨p.val % 16, by omega⟩, if_pos rfl, one_mul, shapeCast_self, shapeCast_self, act_rows x A w _ _ _ hm']
    congr 1
    · apply Fin.ext
      show 16 * (p.val / 16) + (8 * (p.val % 16) + 1) / 8 = p.val
      omega
    · apply Fin.ext
      show 7 - (8 * (p.val % 16) + 1) % 8 = 6
      omega

end

/-- The bilinear product's left factor. -/
theorem zbV_apply (z : Vec Ideal S2000x128 .bf16) (w : Vec Ideal S128x128 .bf16) (p : Fin 2000) (l : Fin 128) :
    zbV z w (ix2 p l) = ∑ k, z (ix2 p k) * w (ix2 k l) := by
  pointwise [zbV]

/-- The first result's block at a row. -/
theorem out0V_apply (zb ch : Vec Ideal S2000x128 .bf16) (o : FVec Ideal S128x2 .bf16) (b : Ideal .f32) (p : Fin 2000) :
    out0V (stV zb ch o) b (ix2 p 0) = ∑ k, zb (ix2 p k) * ch (ix2 p k) * o (ix2 k 0) + b := by
  pointwise [out0V, stV, smV]

/-- The second result's block at a row. -/
theorem out1V_apply (zb ch : Vec Ideal S2000x128 .bf16) (o : FVec Ideal S128x2 .bf16) (b : Ideal .f32) (p : Fin 2000) :
    out1V (stV zb ch o) b (ix2 p 0) = ∑ k, zb (ix2 p k) * ch (ix2 p k) * o (ix2 k 1) + b := by
  pointwise [out1V, stV, smV]

/-- The shifted rows. -/
theorem shV_apply (c : Vec Ideal S1x128 .bf16) (ch : Vec Ideal S2000x128 .bf16) (p : Fin 2000) (l : Fin 128) :
    shV c ch (ix2 p l) = if p.val < 1 then c (ix2 0 l) else ch (ix2 ⟨p.val - 1, by omega⟩ l) := by
  pointwise [shV]
  split
  · refine congrArg (fun q => c (ix2 q l)) (Fin.ext ?_)
    show p.val = 0
    omega
  · rfl

/-- The first result's corrected row. -/
theorem fix0V_apply (z c : Vec Ideal S1x128 .bf16) (o : FVec Ideal S128x2 .bf16) (b : Ideal .f32) :
    fix0V (st1V z c o) b (ix2 0 0) = ∑ k, z (ix2 0 k) * c (ix2 0 k) * o (ix2 k 0) + b := by
  pointwise [fix0V, st1V]

/-- The second result's corrected row. -/
theorem fix1V_apply (z c : Vec Ideal S1x128 .bf16) (o : FVec Ideal S128x2 .bf16) (b : Ideal .f32) :
    fix1V (st1V z c o) b (ix2 0 0) = ∑ k, z (ix2 0 k) * c (ix2 0 k) * o (ix2 k 1) + b := by
  pointwise [fix1V, st1V]

/-- The kept row. -/
theorem zrowV_apply (zb : FVec Ideal S2000x128 .bf16) (l : Fin 128) : zrowV zb (ix2 0 l) = zb (ix2 0 l) := by
  pointwise [zrowV]

/-- The carried row. -/
theorem lastV_apply (ch : Vec Ideal S2000x128 .bf16) (l : Fin 128) : lastV ch (ix2 0 l) = ch (ix2 1999 l) := by
  pointwise [lastV]

end Cert.KernelIdeal.Body

end
-- ==== Proof.Results.lean ====
/-
  What the five steps leave in the results, row by row, over the extended reals: each step writes its 2000 rows of both
  halves, and the last one corrects the first row of the second half.
-/
module

public import proofs.«01_k».proof.Proof.BlockVal
public import proofs.«01_k».proof.Proof.Run
public import Idealize.ShloMosaic.Lib.Pipeline.ArrRel

@[expose] public section

set_option maxRecDepth 16384

noncomputable section

namespace Cert.KernelIdeal.Body

open Idealize.ShloMosaic Idealize.SL.Sem
open Idealize.ShloMosaic.Pipeline (RDat Cfg Window)
open Cert.KernelIdeal Cert.KernelIdeal.Gen

/-! ## Rows written and rows kept -/

/-- A row of the array after `n` rows are put at offset `o`: the payload's inside, the old row outside. -/
theorem put_row {α : Type} {n : ℕ} (y : S20000x1.Idx → α) (o : ℕ) (w : (⟨2, ![n, 1]⟩ : Shape).Idx → α) (r : Fin 20000) :
    VecWindow.put y ![o, 0] ![n, 1] w (ix2 r 0) = if h : o ≤ r.val ∧ r.val - o < n then w (ix2 ⟨r.val - o, h.2⟩ 0) else y (ix2 r 0) := by
  unfold VecWindow.put
  by_cases h : o ≤ r.val ∧ r.val - o < n
  · rw [dif_pos h, dif_pos (fun a => by
      match a with
      | 0 => exact ⟨h.1, by show r.val < o + n; omega⟩
      | 1 => exact ⟨Nat.zero_le _, Nat.one_pos⟩)]
    refine congrArg w (funext fun a => Fin.ext ?_)
    match a with
    | 0 => rfl
    | 1 => rfl
  · rw [dif_neg h, dif_neg (fun g => h ⟨(g 0).1, by
      have h1 : o ≤ r.val := (g 0).1
      have h2 : r.val < o + n := (g 0).2
      omega⟩)]

/-- The three writes of a step: its rows in both halves, and at the last step the correction. -/
def stepPut {α : Type} (t : ℕ) (y : S20000x1.Idx → α) (b1 b2 : S2000x1.Idx → α) (f : S1x1.Idx → α) : S20000x1.Idx → α :=
  let y' := VecWindow.put (VecWindow.put y ![2000 * t, 0] S2000x1.size b1) ![2000 * t + 10000, 0] S2000x1.size b2
  if t = 4 then VecWindow.put y' ![10000, 0] S1x1.size f else y'

section
variable {α : Type} (t : ℕ) (ht : t < 5) (y : S20000x1.Idx → α) (b1 b2 : S2000x1.Idx → α) (f : S1x1.Idx → α)

/-- A row of the array after a step. -/
theorem stepPut_row (r : Fin 20000) : stepPut t y b1 b2 f (ix2 r 0) =
    if t = 4 ∧ r.val = 10000 then f (ix2 0 0)
    else if h : 2000 * t + 10000 ≤ r.val ∧ r.val - (2000 * t + 10000) < 2000 then b2 (ix2 ⟨r.val - (2000 * t + 10000), h.2⟩ 0)
    else if h : 2000 * t ≤ r.val ∧ r.val - 2000 * t < 2000 then b1 (ix2 ⟨r.val - 2000 * t, h.2⟩ 0) else y (ix2 r 0) := by
  have e : VecWindow.put (VecWindow.put y ![2000 * t, 0] S2000x1.size b1) ![2000 * t + 10000, 0] S2000x1.size b2 (ix2 r 0)
      = if h : 2000 * t + 10000 ≤ r.val ∧ r.val - (2000 * t + 10000) < 2000 then b2 (ix2 ⟨r.val - (2000 * t + 10000), h.2⟩ 0)
        else if h : 2000 * t ≤ r.val ∧ r.val - 2000 * t < 2000 then b1 (ix2 ⟨r.val - 2000 * t, h.2⟩ 0) else y (ix2 r 0) :=
    (put_row (n := 2000) _ _ b2 r).trans (by rw [put_row (n := 2000) y _ b1 r])
  unfold stepPut
  by_cases h4 : t = 4
  · rw [if_pos h4]
    refine (put_row (n := 1) _ 10000 f r).trans ?_
    by_cases hr : r.val = 10000
    · rw [dif_pos (by omega), if_pos ⟨h4, hr⟩]
      exact congrArg f (congrArg (fun q => ix2 q 0) (Fin.ext (by show r.val - 10000 = 0; omega)))
    · rw [dif_neg (by omega), if_neg (fun g => hr g.2)]; exact e
  · rw [if_neg h4, if_neg (fun g => h4 g.1)]; exact e
end

/-! ## The rows' values -/

/-- One output: a sum over the lanes and a scalar. -/
def dotRow (z c o : Fin 128 → EReal) (b : EReal) : EReal := ∑ k, z k * c k * o k + b

/-- The row that the rolled copy reads: one up, and for the first row the last but one. -/
def rollRow (i : Fin 10000) : Fin 10000 := if h : i.val = 0 then 9998 else ⟨i.val - 1, by omega⟩

/-- The rows finished after `n` steps: those of both halves, the first row of the second half only after all five. -/
def Done (Z C : Fin 10000 → Fin 128 → EReal) (o : Fin 128 → EReal) (b : EReal) (n : ℕ) (X : S20000x1.Idx → EReal) : Prop :=
  ∀ i : Fin 10000, (i.val < 2000 * n → X (ix2 ⟨i.val, by omega⟩ 0) = dotRow (Z i) (C i) o b)
    ∧ (i.val < 2000 * n → (i.val = 0 → n = 5) → X (ix2 ⟨i.val + 10000, by omega⟩ 0) = dotRow (Z i) (C (rollRow i)) o b)

/-- One more step finishes its rows and keeps those finished before. -/
theorem done_step (Z C : Fin 10000 → Fin 128 → EReal) (o : Fin 128 → EReal) (b : EReal) (t : ℕ) (ht : t < 5)
    (Y : S20000x1.Idx → EReal) (b1 b2 : S2000x1.Idx → EReal) (f : S1x1.Idx → EReal) (hY : Done Z C o b t Y)
    (h1 : ∀ p : Fin 2000, b1 (ix2 p 0) = dotRow (Z ⟨2000 * t + p.val, by omega⟩) (C ⟨2000 * t + p.val, by omega⟩) o b)
    (h2 : ∀ p : Fin 2000, 2000 * t + p.val ≠ 0 →
      b2 (ix2 p 0) = dotRow (Z ⟨2000 * t + p.val, by omega⟩) (C ⟨2000 * t + p.val - 1, by omega⟩) o b)
    (hf : t = 4 → f (ix2 0 0) = dotRow (Z 0) (C 9998) o b) : Done Z C o b (t + 1) (stepPut t Y b1 b2 f) := by
  intro i
  refine ⟨fun hi => ?_, fun hi h0 => ?_⟩
  · rw [stepPut_row, if_neg (fun g => by have : i.val = 10000 := g.2; omega), dif_neg (fun g => by have : 2000 * t + 10000 ≤ i.val := g.1; omega)]
    by_cases h : 2000 * t ≤ i.val
    · rw [dif_pos ⟨h, by show i.val - 2000 * t < 2000; omega⟩, h1]
      have e : (⟨2000 * t + (i.val - 2000 * t), by omega⟩ : Fin 10000) = i := Fin.ext (by show 2000 * t + (i.val - 2000 * t) = i.val; omega)
      exact congrArg (fun q => dotRow (Z q) (C q) o b) e
    · rw [dif_neg (fun g => h g.1)]; exact (hY i).1 (by omega)
  · rw [stepPut_row]
    by_cases hz : i.val = 0
    · have h5 := h0 hz
      rw [if_pos ⟨by omega, by show i.val + 10000 = 10000; omega⟩, hf (by omega)]
      have e : i = 0 := Fin.ext hz
      rw [e]; rfl
    · rw [if_neg (fun g => by have : i.val + 10000 = 10000 := g.2; omega)]
      have er : rollRow i = ⟨i.val - 1, by omega⟩ := by unfold rollRow; rw [dif_neg hz]
      by_cases h : 2000 * t ≤ i.val
      · rw [dif_pos ⟨by show 2000 * t + 10000 ≤ i.val + 10000; omega, by show i.val + 10000 - (2000 * t + 10000) < 2000; omega⟩, h2 _ (by
          show 2000 * t + (i.val + 10000 - (2000 * t + 10000)) ≠ 0; omega), er]
        have e : (⟨2000 * t + (i.val + 10000 - (2000 * t + 10000)), by omega⟩ : Fin 10000) = i :=
          Fin.ext (by show 2000 * t + (i.val + 10000 - (2000 * t + 10000)) = i.val; omega)
        have e' : (⟨2000 * t + (i.val + 10000 - (2000 * t + 10000)) - 1, by omega⟩ : Fin 10000) = ⟨i.val - 1, by omega⟩ :=
          Fin.ext (by show 2000 * t + (i.val + 10000 - (2000 * t + 10000)) - 1 = i.val - 1; omega)
        exact congrArg₂ (fun q q' => dotRow (Z q) (C q') o b) e e'
      · rw [dif_neg (fun g => h (by have : 2000 * t + 10000 ≤ i.val + 10000 := g.1; omega)),
          dif_neg (fun g => by have : i.val + 10000 - 2000 * t < 2000 := g.2; omega)]
        exact (hY i).2 (by omega) (fun g => absurd g hz)

/-! ## The run's results -/

variable (m : (ℓ : Loc nD τ sig) → Buf (Elt Ideal) ℓ)

/-- The grid has five steps. -/
theorem cfg0_N : cfg0.N = 5 := rfl

/-- The step that handles a row of the batch. -/
def stepOf (i : Fin 10000) : Fin cfg0.N := ⟨i.val / 2000, by rw [cfg0_N]; omega⟩

/-- The product's rows over the whole batch. -/
def ZB (c : Dev nD) (i : Fin 10000) (l : Fin 128) : EReal := ZBt m c (stepOf i) (ix2 ⟨i.val % 2000, by omega⟩ l)
/-- The second scratch's rows over the whole batch. -/
def CH (c : Dev nD) (i : Fin 10000) (l : Fin 128) : EReal := Ct m c (stepOf i) (ix2 ⟨i.val % 2000, by omega⟩ l)

/-- A row of the product at its step. -/
theorem ZB_at (c : Dev nD) (t : Fin cfg0.N) (p : Fin 2000) (i : Fin 10000) (h : i.val = 2000 * t.val + p.val) :
    ZB m c i = fun l => ZBt m c t (ix2 p l) := by
  have e1 : stepOf i = t := Fin.ext (by show i.val / 2000 = t.val; omega)
  have e2 : (⟨i.val % 2000, by omega⟩ : Fin 2000) = p := Fin.ext (by show i.val % 2000 = p.val; omega)
  funext l; unfold ZB; rw [e1, e2]
/-- A row of the second scratch at its step. -/
theorem CH_at (c : Dev nD) (t : Fin cfg0.N) (p : Fin 2000) (i : Fin 10000) (h : i.val = 2000 * t.val + p.val) :
    CH m c i = fun l => Ct m c t (ix2 p l) := by
  have e1 : stepOf i = t := Fin.ext (by show i.val / 2000 = t.val; omega)
  have e2 : (⟨i.val % 2000, by omega⟩ : Fin 2000) = p := Fin.ext (by show i.val % 2000 = p.val; omega)
  funext l; unfold CH; rw [e1, e2]

/-- The shifted rows of a step, away from the batch's first row. -/
theorem shifted_at (c : Dev nD) (t : Fin cfg0.N) (d : S8x128.Idx → Elt Ideal .bf16) (hd : carried m c t.val d) (p : Fin 2000)
    (hp : 2000 * t.val + p.val ≠ 0) (l : Fin 128) (i : Fin 10000) (hi : i.val = 2000 * t.val + p.val - 1) :
    shV (row0 d) (Ct m c t) (ix2 p l) = CH m c i l := by
  rw [shV_apply]
  split
  · rename_i h1
    have ht := t.isLt
    rw [hd ⟨t.val - 1, by omega⟩ (by show t.val - 1 + 1 = t.val; omega), lastV_apply,
      CH_at m c ⟨t.val - 1, by omega⟩ 1999 i (by show i.val = 2000 * (t.val - 1) + 1999; omega)]
  · rename_i h1
    rw [CH_at m c t ⟨p.val - 1, by omega⟩ i (by show i.val = 2000 * t.val + (p.val - 1); omega)]

/-- The kept row at the last step is the batch's first. -/
theorem kept_at (c : Dev nD) (t : Fin cfg0.N) (ht : t.val = 4) (d : S8x128.Idx → Elt Ideal .bf16) (hd : kept m c t.val d)
    (w : S128x128.Idx → Elt Ideal .bf16) (l : Fin 128) :
    row0 (keep16 (grid0.coords t) w (Zt m c t) d) (ix2 0 l) = ZB m c 0 l := by
  have h0 : ¬ isAt (grid0.coords t) 0#32 = 1#1 := fun h => by have := (isAt_zero t).mp h; omega
  have hN := t.isLt
  unfold keep16
  rw [if_neg h0, hd ⟨0, by omega⟩ rfl (by omega), zrowV_apply, ZB_at m c ⟨0, by omega⟩ 0 0 rfl]

/-- The window of the second scratch that the correction reads. -/
theorem window1998 (ch : S2000x128.Idx → Elt Ideal .bf16) (l : Fin 128) :
    (VecWindow.window ch ![1998, 0] S1x128.size inb_S2000x128_S1x128_1998_0 : S1x128.Idx → Elt Ideal .bf16) (ix2 0 l) = ch (ix2 1998 l) := by
  refine congrArg ch (funext fun a => Fin.ext ?_)
  match a with
  | 0 => rfl
  | 1 => show 0 + 1 * l.val = l.val; omega

/-- A step's effect on the first result's buffer. -/
theorem rel0_done (c : Dev nD) (t : Fin cfg0.N) (o : Fin 128 → EReal) (b : EReal)
    (ho : ∀ k, oM (iblk m c 8 t) (ix2 k 0) = o k) (hb : sc0 (iblk m c 9 t) = b) (Y X : S20000x1.Idx → EReal)
    (h : rel0 m c t Y X) (hY : Done (ZB m c) (CH m c) o b t.val Y) : Done (ZB m c) (CH m c) o b (t.val + 1) X := by
  obtain ⟨d15, d16, h15, h16, rfl⟩ := h
  have hN : t.val < 5 := t.isLt
  have e : res0 (grid0.coords t) (iblk m c 4 t) (iblk m c 8 t) (iblk m c 9 t) (Zt m c t) (Ct m c t) d15 d16 Y
      = stepPut t.val Y (out0V (stV (ZBt m c t) (Ct m c t) (oM (iblk m c 8 t))) (sc0 (iblk m c 9 t)))
          (out0V (stV (ZBt m c t) (shV (row0 d15) (Ct m c t)) (oM (iblk m c 8 t))) (sc0 (iblk m c 9 t)))
          (fix0V (st1V (row0 (keep16 (grid0.coords t) (iblk m c 4 t) (Zt m c t) d16))
            (VecWindow.window (Ct m c t) ![1998, 0] S1x128.size inb_S2000x128_S1x128_1998_0) (oM (iblk m c 8 t))) (sc0 (iblk m c 9 t))) := by
    unfold res0 stepPut
    rw [k0_off1_eq, k0_off2_eq, coords_val]
    simp only [isAt_four]
    rfl
  rw [e]
  refine done_step _ _ o b t.val hN Y _ _ _ hY (fun p => ?_) (fun p hp => ?_) (fun h4 => ?_)
  · rw [out0V_apply, hb, ZB_at m c t p _ rfl, CH_at m c t p _ rfl]; unfold dotRow; simp only [ho]
  · rw [out0V_apply, hb, ZB_at m c t p ⟨2000 * t.val + p.val, _⟩ rfl]; unfold dotRow
    refine congrArg (· + b) (Finset.sum_congr rfl fun k _ => ?_)
    rw [ho, shifted_at m c t d15 h15 p hp k ⟨2000 * t.val + p.val - 1, by omega⟩ rfl]
  · rw [fix0V_apply, hb, CH_at m c t 1998 9998 (by show 9998 = 2000 * t.val + 1998; omega)]; unfold dotRow
    refine congrArg (· + b) (Finset.sum_congr rfl fun k _ => ?_)
    rw [ho, window1998, kept_at m c t h4 d16 h16 _ k]

/-- A step's effect on the second result's buffer. -/
theorem rel1_done (c : Dev nD) (t : Fin cfg0.N) (o : Fin 128 → EReal) (b : EReal)
    (ho : ∀ k, oM (iblk m c 8 t) (ix2 k 1) = o k) (hb : sc1 (iblk m c 9 t) = b) (Y X : S20000x1.Idx → EReal)
    (h : rel1 m c t Y X) (hY : Done (ZB m c) (CH m c) o b t.val Y) : Done (ZB m c) (CH m c) o b (t.val + 1) X := by
  obtain ⟨d15, d16, h15, h16, rfl⟩ := h
  have hN : t.val < 5 := t.isLt
  have e : res1 (grid0.coords t) (iblk m c 4 t) (iblk m c 8 t) (iblk m c 9 t) (Zt m c t) (Ct m c t) d15 d16 Y
      = stepPut t.val Y (out1V (stV (ZBt m c t) (Ct m c t) (oM (iblk m c 8 t))) (sc1 (iblk m c 9 t)))
          (out1V (stV (ZBt m c t) (shV (row0 d15) (Ct m c t)) (oM (iblk m c 8 t))) (sc1 (iblk m c 9 t)))
          (fix1V (st1V (row0 (keep16 (grid0.coords t) (iblk m c 4 t) (Zt m c t) d16))
            (VecWindow.window (Ct m c t) ![1998, 0] S1x128.size inb_S2000x128_S1x128_1998_0) (oM (iblk m c 8 t))) (sc1 (iblk m c 9 t))) := by
    unfold res1 stepPut
    rw [k0_off1_eq, k0_off2_eq, coords_val]
    simp only [isAt_four]
    rfl
  rw [e]
  refine done_step _ _ o b t.val hN Y _ _ _ hY (fun p => ?_) (fun p hp => ?_) (fun h4 => ?_)
  · rw [out1V_apply, hb, ZB_at m c t p _ rfl, CH_at m c t p _ rfl]; unfold dotRow; simp only [ho]
  · rw [out1V_apply, hb, ZB_at m c t p ⟨2000 * t.val + p.val, _⟩ rfl]; unfold dotRow
    refine congrArg (· + b) (Finset.sum_congr rfl fun k _ => ?_)
    rw [ho, shifted_at m c t d15 h15 p hp k ⟨2000 * t.val + p.val - 1, by omega⟩ rfl]
  · rw [fix1V_apply, hb, CH_at m c t 1998 9998 (by show 9998 = 2000 * t.val + 1998; omega)]; unfold dotRow
    refine congrArg (· + b) (Finset.sum_congr rfl fun k _ => ?_)
    rw [ho, window1998, kept_at m c t h4 d16 h16 _ k]

/-- A window that no step fetches and that is written back only at the end holds, after each step, what the steps so far made of it. -/
theorem leaves_done (c : Dev nD) (w : Fin cfg0.W) (D : ℕ → ((cfg0.win w).block.Idx → Elt Ideal (cfg0.win w).elt) → Prop)
    (hfe : ∀ t, (cfg0.win w).fetch t = false) (hfl : ∀ t : Fin cfg0.N, t.val < 4 → (cfg0.win w).flush t = false) (h0 : ∀ X, D 0 X)
    (hs : ∀ (t : Fin cfg0.N) Y X, (rdat m c).after w t Y X → D t.val Y → D (t.val + 1) X) :
    ∀ (n : ℕ) (hn : n < cfg0.N) X, (rdat m c).Leaves w ⟨n, hn⟩ X → D (n + 1) X
  | 0, hn, X, ⟨Y, _, hX⟩ => hs ⟨0, hn⟩ Y X hX (h0 Y)
  | n + 1, hn, X, ⟨Y, hY, hX⟩ => hs ⟨n + 1, hn⟩ Y X hX (by
      rcases ((rdat m c).finds_of_pos (hfe _) (Nat.succ_ne_zero n) Y).mp hY with h | h
      · rw [cfg0_N] at hn
        have := hfl ⟨n, by rw [cfg0_N]; omega⟩ (by show n < 4; omega)
        exact absurd (h.symm.trans this) (by decide)
      · exact leaves_done c w D hfe hfl h0 hs n _ Y h)

end Cert.KernelIdeal.Body

end
-- ==== Proof.Scatter.lean ====
/-
  A 64×64 block written into a 128×128 array at equal row and column offsets, element by element.
-/
module

public import proofs.«01_k».proof.Proof.BlockVal
public import Idealize.ShloMosaic.Lib.Routing.OpsPair

@[expose] public section

set_option maxRecDepth 16384

noncomputable section

namespace Cert.KernelIdeal.Body

open Idealize.ShloMosaic Idealize.SL.Sem
open Cert.KernelIdeal Cert.KernelIdeal.Gen

/-- A replacing fold in which no entry is chosen keeps the start. -/
theorem fold_none {α β : Type} (P : β → Prop) [DecidablePred P] (g : β → α) (x : α) :
    ∀ L : List β, (∀ n ∈ L, ¬ P n) → L.foldl (fun a n => if P n then g n else a) x = x
  | [], _ => rfl
  | n :: L, h => by
    rw [List.foldl_cons, if_neg (h n List.mem_cons_self)]
    exact fold_none P g x L fun k hk => h k (List.mem_cons_of_mem _ hk)

/-- A replacing fold in which one entry at most is chosen, and that one occurs, ends at its value. -/
theorem fold_one {α β : Type} (P : β → Prop) [DecidablePred P] (g : β → α) (n₀ : β) (h0 : P n₀) (hu : ∀ n, P n → n = n₀) :
    ∀ (L : List β) (x : α), n₀ ∈ L → L.foldl (fun a n => if P n then g n else a) x = g n₀
  | n :: L, x, h => by
    rw [List.foldl_cons]
    by_cases hL : n₀ ∈ L
    · exact fold_one P g n₀ h0 hu L _ hL
    · have e : n₀ = n := (List.mem_cons.mp h).resolve_right hL
      subst e
      rw [if_pos h0]
      exact fold_none P g _ L fun k hk hp => hL (hu k hp ▸ hk)

/-- Where an element of the block lands. -/
theorem box_lands (idx : IVec S2 32) (o : ℕ) (ho : ∀ k, (idx k).toInt = (o : ℤ)) (a b : Fin 64) (r l : Fin 128) :
    scatter_S128x128_S2_S64x64_01_n_01_0.resultIdx? (ix2 a b) idx = some (ix2 r l) ↔ o + a.val = r.val ∧ o + b.val = l.val := by
  rw [Routing.resultIdx?_eq_some]
  have hs : ∀ q : Fin 2, scatter_S128x128_S2_S64x64_01_n_01_0.start (ix2 a b) idx q = (o : ℤ) := fun q => by
    unfold ScatterDims.start
    rw [dif_pos (by
      show q ∈ ([0, 1] : List (Fin 2))
      fin_cases q <;> simp), ho]
  have h0 : scatter_S128x128_S2_S64x64_01_n_01_0.window (ix2 a b) 0 = a.val := rfl
  have h1 : scatter_S128x128_S2_S64x64_01_n_01_0.window (ix2 a b) 1 = b.val := rfl
  refine ⟨fun h => ?_, fun h q => ?_⟩
  · have e0 := h 0
    have e1 := h 1
    rw [hs, h0] at e0
    rw [hs, h1] at e1
    have f0 : (o : ℤ) + (a.val : ℤ) = (r.val : ℤ) := e0
    have f1 : (o : ℤ) + (b.val : ℤ) = (l.val : ℤ) := e1
    omega
  · rw [hs]
    match q with
    | 0 => rw [h0]; show (o : ℤ) + (a.val : ℤ) = (r.val : ℤ); omega
    | 1 => rw [h1]; show (o : ℤ) + (b.val : ℤ) = (l.val : ℤ); omega

/-- The array after the block is written: the block's element inside, the old one outside. -/
theorem box_apply {α : Type} (x : S128x128.Idx → α) (idx : IVec S2 32) (o : ℕ) (ho : ∀ k, (idx k).toInt = (o : ℤ)) (u : S64x64.Idx → α)
    (r l : Fin 128) : Host.scatter scatter_S128x128_S2_S64x64_01_n_01_0 (fun _ b => b) x idx u (ix2 r l)
      = if h : (o ≤ r.val ∧ r.val - o < 64) ∧ (o ≤ l.val ∧ l.val - o < 64) then u (ix2 ⟨r.val - o, h.1.2⟩ ⟨l.val - o, h.2.2⟩) else x (ix2 r l) := by
  have hsym : ∀ n : Fin S64x64.numel, S64x64.rowMajor.symm n
      = ix2 ⟨n.val / 64, by have := n.isLt; have e : S64x64.numel = 4096 := rfl; omega⟩ ⟨n.val % 64, by omega⟩ := fun n => (Routing.symm22 n (by have := n.isLt; have e : S64x64.numel = 4096 := rfl; omega) (by omega)).trans (by
      funext q
      match q with
      | 0 => rfl
      | 1 => rfl)
  have hP : ∀ n : Fin S64x64.numel, scatter_S128x128_S2_S64x64_01_n_01_0.resultIdx? (S64x64.rowMajor.symm n) idx = some (ix2 r l)
      ↔ o + n.val / 64 = r.val ∧ o + n.val % 64 = l.val := fun n => by
    rw [hsym n, box_lands idx o ho]
  rw [Routing.scatter_at]
  by_cases h : (o ≤ r.val ∧ r.val - o < 64) ∧ (o ≤ l.val ∧ l.val - o < 64)
  · rw [dif_pos h]
    have e : S64x64.numel = 4096 := rfl
    refine (fold_one (fun n => scatter_S128x128_S2_S64x64_01_n_01_0.resultIdx? (S64x64.rowMajor.symm n) idx = some (ix2 r l))
      (fun n => u (S64x64.rowMajor.symm n)) ⟨(r.val - o) * 64 + (l.val - o), by omega⟩ ((hP _).mpr ?_) (fun n hn => ?_) _ _ (List.mem_finRange _)).trans ?_
    · dsimp only; omega
    · have := (hP n).mp hn
      exact Fin.ext (by dsimp only; omega)
    · rw [hsym]
      refine congrArg₂ (fun p q => u (ix2 p q)) (Fin.ext ?_) (Fin.ext ?_)
      · dsimp only; omega
      · dsimp only; omega
  · rw [dif_neg h]
    refine fold_none (fun n => scatter_S128x128_S2_S64x64_01_n_01_0.resultIdx? (S64x64.rowMajor.symm n) idx = some (ix2 r l))
      (fun n => u (S64x64.rowMajor.symm n)) _ _ fun n _ hn => ?_
    have := (hP n).mp hn
    have e : S64x64.numel = 4096 := rfl
    have := n.isLt
    omega

end Cert.KernelIdeal.Body

end
-- ==== Proof.Host.lean ====
/-
  What the arrays that the program prepares before its launch hold, element by element, over the extended reals.
-/
module

public import proofs.«01_k».proof.Proof.Scatter
public import proofs.«01_k».proof.Proof.Gen.KernelIdeal.Frame
public import Idealize.ShloMosaic.Lib.StableHlo.ReadAt

@[expose] public section

set_option maxRecDepth 16384

noncomputable section

namespace Cert.KernelIdeal.Body

open Idealize.ShloMosaic Idealize.SL.Sem Idealize.ShloMosaic.TcCoe
open Cert.KernelIdeal Cert.KernelIdeal.Gen

/-! ## The program's constant tables -/

/-- The mask's table. -/
theorem table_mask : ∀ l : Fin 128, lit0 (S128.rowMajor (ix1 l)) = if 64 ≤ l.val ∧ l.val < 72 then 0x3F800000#32 else 0#32 := by
  decide +kernel
/-- The column table. -/
theorem table_ones : ∀ (k : Fin 128) (j : Fin 2), lit3 (S128x2.rowMajor (ix2 k j))
    = if k.val / 64 = j.val then 0x3F800000#32 else 0#32 := by
  decide +kernel
/-- The selection's numerators, its first 16 rows. -/
theorem table_mean : ∀ (i : Fin 16) (r : Fin 128), lit1 (S48x128.rowMajor (ix2 ⟨i.val, by omega⟩ r))
    = if r.val / 8 = i.val ∧ r.val % 8 ≠ 0 then 0x3F800000#32 else 0#32 := by
  decide +kernel
/-- Its next 16 rows. -/
theorem table_fst : ∀ (i : Fin 16) (r : Fin 128), lit1 (S48x128.rowMajor (ix2 ⟨16 + i.val, by omega⟩ r))
    = if r.val = 8 * i.val then 0x3F800000#32 else 0#32 := by
  decide +kernel
/-- Its last 16 rows. -/
theorem table_snd : ∀ (i : Fin 16) (r : Fin 128), lit1 (S48x128.rowMajor (ix2 ⟨32 + i.val, by omega⟩ r))
    = if r.val = 8 * i.val + 1 then 0x3F800000#32 else 0#32 := by
  decide +kernel
/-- Its denominators. -/
theorem table_den : ∀ i : Fin 48, lit2 (S48x1.rowMajor (ix2 i 0)) = if i.val < 16 then 0x40E00000#32 else 0x3F800000#32 := by
  decide +kernel

/-! ## The arrays -/

variable (m : (ℓ : Loc nD τ sig) → Buf (Elt Ideal) ℓ) (c : Dev nD)

/-- The weights: the first layer's on the first 64 lanes, the second's on the others. -/
theorem host_w (i : Fin 256) (l : Fin 128) : (V m c main_call0_v8 (ix2 i l) : EReal)
    = if h : l.val < 64 then m ((c : Thread nD τ).loc main_arg2) (ix2 ⟨l.val, h⟩ i)
      else m ((c : Thread nD τ).loc main_arg5) (ix2 ⟨l.val - 64, by omega⟩ i) := by
  unfold V
  after_reads_at
  after_reads_at

/-- The adjacency, a graph a row, padded with zeros. -/
theorem host_A (p : Fin 10000) (l : Fin 128) : (V m c main_call0_v2 (ix2 p l) : EReal)
    = if h : l.val < 64 then (m ((c : Thread nD τ).loc main_arg1) (ix3 p ⟨l.val / 8, by omega⟩ ⟨l.val % 8, by omega⟩) : EReal) else (0 : EReal) := by
  unfold V
  after_reads_at
  have e : (FloatOps.sitofp (F := Ideal) FTy.bf16 (0#32 : BitVec 32) : EReal) = 0 := by
    show (((0#32 : BitVec 32).toInt : ℝ) : EReal) = 0
    simp
  rw [e]

/-- The selection. -/
theorem host_s (i : Fin 48) (r : Fin 128) : (V m c main_call0_v35 (ix2 i r) : EReal)
    = Ideal.div (Ideal.ofBits .f32 (lit1 (S48x128.rowMajor (ix2 i r)))) (Ideal.ofBits .f32 (lit2 (S48x1.rowMajor (ix2 i 0)))) := by
  unfold V
  after_reads_at

/-- The columns. -/
theorem host_o (k : Fin 128) (j : Fin 2) : (V m c main_call0_v36 (ix2 k j) : EReal) = if k.val / 64 = j.val then (1 : EReal) else (0 : EReal) := by
  have e : (V m c main_call0_v36 (ix2 k j) : EReal) = Ideal.ofBits .f32 (lit3 (S128x2.rowMajor (ix2 k j))) := by
    unfold V
    after_reads_at
  rw [e, table_ones]
  split
  · exact Ideal.ofBits_one_f32
  · exact Ideal.ofBits_zero_f32

/-- The mask. -/
theorem host_mask : IsMask (V m c main_call0_v4) := fun l => by
  have e : (V m c main_call0_v4 (ix2 0 l) : EReal) = Ideal.ofBits .f32 (lit0 (S128.rowMajor (ix1 l))) := by
    unfold V
    after_reads_at
  rw [e, table_mask]
  split
  · exact Ideal.ofBits_one_f32
  · exact Ideal.ofBits_zero_f32

/-- The selection's form. -/
theorem host_sel : IsSel (V m c main_call0_v35) where
  mean i r := by
    have d := (table_den ⟨i.val, by omega⟩).trans (if_pos (by show i.val < 16; omega))
    rw [host_s, table_mean, d, ofBits_seven]
    split
    · rw [Ideal.ofBits_one_f32, Ideal.div_coe (by norm_num), one_mul]
    · rw [Ideal.ofBits_zero_f32, Ideal.div_coe (by norm_num), zero_mul]
  fst i r := by
    have d := (table_den ⟨16 + i.val, by omega⟩).trans (if_neg (by show ¬ 16 + i.val < 16; omega))
    rw [host_s, table_fst, d, Ideal.ofBits_one_f32]
    split
    · rw [Ideal.ofBits_one_f32, ← EReal.coe_one, Ideal.div_coe (by norm_num)]; norm_num
    · rw [Ideal.ofBits_zero_f32, ← EReal.coe_one, Ideal.div_coe (by norm_num), zero_mul]
  snd i r := by
    have d := (table_den ⟨32 + i.val, by omega⟩).trans (if_neg (by show ¬ 32 + i.val < 16; omega))
    rw [host_s, table_snd, d, Ideal.ofBits_one_f32]
    split
    · rw [Ideal.ofBits_one_f32, ← EReal.coe_one, Ideal.div_coe (by norm_num)]; norm_num
    · rw [Ideal.ofBits_zero_f32, ← EReal.coe_one, Ideal.div_coe (by norm_num), zero_mul]

/-- The biases. -/
theorem host_b (k : Fin 128) : (V m c main_call0_v21 (ix2 0 k) : EReal)
    = if h : k.val < 64 then m ((c : Thread nD τ).loc main_arg3) (ix1 ⟨k.val, h⟩) else m ((c : Thread nD τ).loc main_arg6) (ix1 ⟨k.val - 64, by omega⟩) := by
  unfold V
  after_reads_at
  after_reads_at

/-- The slopes. -/
theorem host_a (k : Fin 128) : (V m c main_call0_v26 (ix2 0 k) : EReal)
    = if k.val < 64 then m ((c : Thread nD τ).loc main_arg4) (ix1 0) else m ((c : Thread nD τ).loc main_arg7) (ix1 0) := by
  unfold V
  after_reads_at
  after_reads_at
  rfl

/-- The scalars added. -/
theorem host_bk (j : Fin 2) : (V m c main_call0_v32 (ix2 0 j) : EReal)
    = if j.val < 1 then m ((c : Thread nD τ).loc main_arg9) (ix1 0) else m ((c : Thread nD τ).loc main_arg11) (ix1 0) := by
  unfold V
  after_reads_at
  after_reads_at
  rfl

/-- The bilinear weights: one block on the first 64 lanes, the other on the last 64, zeros elsewhere. -/
theorem host_wk (k l : Fin 128) : (V m c main_call0_v18 (ix2 k l) : EReal)
    = if h : (64 ≤ k.val ∧ k.val - 64 < 64) ∧ (64 ≤ l.val ∧ l.val - 64 < 64) then
        m ((c : Thread nD τ).loc main_arg10) (ix2 ⟨k.val - 64, h.1.2⟩ ⟨l.val - 64, h.2.2⟩)
      else if h : k.val < 64 ∧ l.val < 64 then m ((c : Thread nD τ).loc main_arg8) (ix2 ⟨k.val, h.1⟩ ⟨l.val, h.2⟩)
      else (0 : EReal) := by
  have e : ∀ q : Fin 128, (broadcastInDim S128x128 ![] bcast_S_S128x128 (constant (F := Ideal) S_ FTy.f32 0#32) (ix2 k q) : EReal) = 0 := fun q => by
    pointwise
  unfold V
  after_reads_at
  rw [box_apply _ _ 64 (fun q => by
    idx_vars q
    pointwise
    after_reads_at
    split <;> rfl), box_apply _ _ 0 (fun q => by
    idx_vars q
    pointwise
    after_reads_at
    split <;> rfl), e]
  split
  · rfl
  · by_cases h : k.val < 64 ∧ l.val < 64
    · rw [dif_pos h, dif_pos ⟨⟨Nat.zero_le _, h.1⟩, ⟨Nat.zero_le _, h.2⟩⟩]; rfl
    · rw [dif_neg h, dif_neg (fun g => h ⟨g.1.2, g.2.2⟩)]

end Cert.KernelIdeal.Body

end
-- ==== Proof.Rows.lean ====
/-
  The rows that the launch computes, in terms of the program's arguments.
-/
module

public import proofs.«01_k».proof.Proof.Results
public import proofs.«01_k».proof.Proof.Host

@[expose] public section

set_option maxRecDepth 16384

noncomputable section

namespace Cert.KernelIdeal.Body

open Idealize.ShloMosaic Idealize.SL.Sem Idealize.ShloMosaic.TcCoe
open Cert.KernelIdeal Cert.KernelIdeal.Gen

/-! ## The blocks the steps see -/

/-- Every window but the first two is on the whole of its array at every step. -/
theorem index_zero : ∀ (w : Fin cfg0.W) (t : Fin cfg0.N) (a : Fin (cfg0.win w).shape.rank), 2 ≤ w.val → (cfg0.win w).index t a = 0 := by
  decide +kernel
/-- The first window's block at a step is the step's group of graphs. -/
theorem index_x : ∀ (t : Fin cfg0.N) (a : Fin 3), (cfg0.win 0).index t a = if a.val = 0 then t.val else 0 := by
  decide +kernel
/-- So is the second window's. -/
theorem index_A : ∀ (t : Fin cfg0.N) (a : Fin 2), (cfg0.win 1).index t a = if a.val = 0 then t.val else 0 := by
  decide +kernel

variable (m : (ℓ : Loc nD τ sig) → Buf (Elt Ideal) ℓ) (c : Dev nD) (t : Fin cfg0.N)

/-- An element of a window that is on the whole of its array sits in the array where it sits in the block. -/
theorem emb_whole (w : Fin cfg0.W) (hw : 2 ≤ w.val) (x : ((cfg0.win w).xblock (grid0.coords t)).Idx) (a : Fin (cfg0.win w).shape.rank) :
    (((cfg0.win w).rect t).emb x a).val = (x a).val :=
  Pipeline.Window.rect_emb_val_of_index_zero _ t a (index_zero w t a hw) x

/-- The weights' block. -/
theorem blk_w : iblk m c 2 t = V m c main_call0_v8 :=
  funext fun j => congrArg (V m c main_call0_v8) (funext fun a => Fin.ext (emb_whole t 2 (by decide) j a))
/-- The selection's block. -/
theorem blk_s : iblk m c 3 t = V m c main_call0_v35 :=
  funext fun j => congrArg (V m c main_call0_v35) (funext fun a => Fin.ext (emb_whole t 3 (by decide) j a))
/-- The bilinear weights' block. -/
theorem blk_wk : iblk m c 4 t = V m c main_call0_v18 :=
  funext fun j => congrArg (V m c main_call0_v18) (funext fun a => Fin.ext (emb_whole t 4 (by decide) j a))
/-- The biases' block. -/
theorem blk_b : iblk m c 5 t = V m c main_call0_v21 :=
  funext fun j => congrArg (V m c main_call0_v21) (funext fun a => Fin.ext (emb_whole t 5 (by decide) j a))
/-- The slopes' block. -/
theorem blk_a : iblk m c 6 t = V m c main_call0_v26 :=
  funext fun j => congrArg (V m c main_call0_v26) (funext fun a => Fin.ext (emb_whole t 6 (by decide) j a))
/-- The mask's block. -/
theorem blk_mask : iblk m c 7 t = V m c main_call0_v4 :=
  funext fun j => congrArg (V m c main_call0_v4) (funext fun a => Fin.ext (emb_whole t 7 (by decide) j a))
/-- The column table's block. -/
theorem blk_o : iblk m c 8 t = V m c main_call0_v36 :=
  funext fun j => congrArg (V m c main_call0_v36) (funext fun a => Fin.ext (emb_whole t 8 (by decide) j a))
/-- The discriminators' biases' block. -/
theorem blk_bk : iblk m c 9 t = V m c main_call0_v32 :=
  funext fun j => congrArg (V m c main_call0_v32) (funext fun a => Fin.ext (emb_whole t 9 (by decide) j a))

/-- The features' block. -/
theorem blk_x (p : Fin 2000) (n : Fin 8) (i : Fin 256) (q : Fin 10000) (hq : q.val = 2000 * t.val + p.val) :
    (iblk m c 0 t (ix3 p n i) : EReal) = m ((c : Thread nD τ).loc main_arg0) (ix3 q n i) := by
  rw [← V_main_arg0 m c]
  refine congrArg (V m c main_arg0) (funext fun a => Fin.ext ?_)
  refine (Pipeline.Window.rect_emb_val (cfg0.win 0) t _ a).trans ?_
  rw [index_x]
  match a with
  | ⟨0, _⟩ => show t.val * 2000 + p.val = q.val; omega
  | ⟨1, _⟩ => show 0 * 8 + n.val = n.val; omega
  | ⟨2, _⟩ => show 0 * 256 + i.val = i.val; omega

/-- The adjacency's block, on the lanes that hold it. -/
theorem blk_A (p : Fin 2000) (s k : Fin 8) (q : Fin 10000) (hq : q.val = 2000 * t.val + p.val) :
    (iblk m c 1 t (ix2 p (⟨8 * s.val + k.val, by omega⟩ : Fin 128)) : EReal) = m ((c : Thread nD τ).loc main_arg1) (ix3 q s k) := by
  have e : (iblk m c 1 t (ix2 p (⟨8 * s.val + k.val, by omega⟩ : Fin 128)) : EReal)
      = V m c main_call0_v2 (ix2 q (⟨8 * s.val + k.val, by omega⟩ : Fin 128)) := by
    refine congrArg (V m c main_call0_v2) (funext fun a => Fin.ext ?_)
    refine (Pipeline.Window.rect_emb_val (cfg0.win 1) t _ a).trans ?_
    rw [index_A]
    match a with
    | ⟨0, _⟩ => show t.val * 2000 + p.val = q.val; omega
    | ⟨1, _⟩ => show 0 * 128 + (8 * s.val + k.val) = 8 * s.val + k.val; omega
  rw [e, host_A, dif_pos (by show 8 * s.val + k.val < 64; omega)]
  refine congrArg _ ?_
  rw [show (⟨(8 * s.val + k.val) / 8, by omega⟩ : Fin 8) = s from Fin.ext (by show (8 * s.val + k.val) / 8 = s.val; omega),
    show (⟨(8 * s.val + k.val) % 8, by omega⟩ : Fin 8) = k from Fin.ext (by show (8 * s.val + k.val) % 8 = k.val; omega)]

/-! ## One node's activation -/

/-- One layer's activation of a node, in terms of the layer's arguments. -/
def gcn (x : S10000x8x256.Idx → EReal) (A : S10000x8x8.Idx → EReal) (W : S64x256.Idx → EReal) (b : S64.Idx → EReal) (a : S1.Idx → EReal)
    (q : Fin 10000) (n : Fin 8) (l : Fin 64) : EReal :=
  prelu (a (ix1 0)) (∑ k : Fin 8, A (ix3 q n k) * (∑ i : Fin 256, x (ix3 q k i) * W (ix2 l i)) + b (ix1 l))

/-- The first layer's activation. -/
def gcn1 : Fin 10000 → Fin 8 → Fin 64 → EReal := gcn (m ((c : Thread nD τ).loc main_arg0)) (m ((c : Thread nD τ).loc main_arg1))
  (m ((c : Thread nD τ).loc main_arg2)) (m ((c : Thread nD τ).loc main_arg3)) (m ((c : Thread nD τ).loc main_arg4))
/-- The second layer's activation. -/
def gcn2 : Fin 10000 → Fin 8 → Fin 64 → EReal := gcn (m ((c : Thread nD τ).loc main_arg0)) (m ((c : Thread nD τ).loc main_arg1))
  (m ((c : Thread nD τ).loc main_arg5)) (m ((c : Thread nD τ).loc main_arg6)) (m ((c : Thread nD τ).loc main_arg7))

/-- The blocks' activation of a node, on the arrays of step `t`. -/
def actAt (p : Fin 2000) (n : Fin 8) (l : Fin 128) : EReal :=
  act (iblk m c 0 t) (iblk m c 1 t) (iblk m c 2 t) (iblk m c 5 t) (iblk m c 6 t) p n l

/-- The lower lanes hold the first layer. -/
theorem act_lower (p : Fin 2000) (n : Fin 8) (l : Fin 64) (q : Fin 10000) (hq : q.val = 2000 * t.val + p.val) :
    actAt m c t p n ⟨l.val, by omega⟩ = gcn1 m c q n l := by
  unfold actAt act gcn1 gcn
  rw [blk_w, blk_b, blk_a, host_a, host_b, if_pos l.isLt, dif_pos l.isLt]
  refine congrArg (prelu _) (congrArg (· + _) (Finset.sum_congr rfl fun k _ => ?_))
  refine congrArg₂ (fun u v : EReal => u * v) (blk_A m c t p n k q hq) (Finset.sum_congr rfl fun i _ => ?_)
  rw [blk_x m c t p k i q hq, host_w, dif_pos l.isLt]

/-- The upper lanes hold the second layer. -/
theorem act_upper (p : Fin 2000) (n : Fin 8) (l : Fin 64) (q : Fin 10000) (hq : q.val = 2000 * t.val + p.val) :
    actAt m c t p n ⟨64 + l.val, by omega⟩ = gcn2 m c q n l := by
  have h : ¬ (64 + l.val < 64) := by omega
  have e : ∀ h', (⟨64 + l.val - 64, h'⟩ : Fin 64) = l := fun _ => Fin.ext (by show 64 + l.val - 64 = l.val; omega)
  unfold actAt act gcn2 gcn
  rw [blk_w, blk_b, blk_a, host_a, host_b, if_neg h, dif_neg h, e]
  refine congrArg (prelu _) (congrArg (· + _) (Finset.sum_congr rfl fun k _ => ?_))
  refine congrArg₂ (fun u v : EReal => u * v) (blk_A m c t p n k q hq) (Finset.sum_congr rfl fun i _ => ?_)
  rw [blk_x m c t p k i q hq, host_w, dif_neg h, e]

/-! ## The launch's rows -/

/-- The first scratch's rows. -/
theorem Zt_row (p : Fin 2000) (l : Fin 128) : (Zt m c t (ix2 p l) : EReal) = actAt m c t p 7 l :=
  zOf_apply _ _ _ _ _ _ _ (blk_s m c t ▸ host_sel m c) (blk_mask m c t ▸ host_mask m c) p l
/-- The second scratch's rows. -/
theorem Ct_row (p : Fin 2000) (l : Fin 128) : (Ct m c t (ix2 p l) : EReal)
    = if l.val < 64 then (∑ n : Fin 7, actAt m c t p ⟨n.val, by omega⟩ l) * ((1 / 7 : ℝ) : EReal) else actAt m c t p 6 l :=
  cOf_apply _ _ _ _ _ _ _ (blk_s m c t ▸ host_sel m c) (blk_mask m c t ▸ host_mask m c) p l
/-- The product's rows. -/
theorem ZBt_row (p : Fin 2000) (l : Fin 128) : (ZBt m c t (ix2 p l) : EReal)
    = ∑ k : Fin 128, actAt m c t p 7 k * V m c main_call0_v18 (ix2 k l) := by
  refine (zbV_apply _ _ p l).trans (Finset.sum_congr rfl fun k _ => ?_)
  rw [Zt_row, blk_wk]

/-- A row's step and its place in the step. -/
theorem step_at (i : Fin 10000) : i.val = 2000 * (stepOf i).val + (⟨i.val % 2000, by omega⟩ : Fin 2000).val := by
  show i.val = 2000 * (i.val / 2000) + i.val % 2000
  omega

/-- The product on the lower lanes. -/
theorem ZB_lower (i : Fin 10000) (l : Fin 64) : ZB m c i ⟨l.val, by omega⟩
    = ∑ k : Fin 64, gcn1 m c i 7 k * m ((c : Thread nD τ).loc main_arg8) (ix2 k l) := by
  unfold ZB
  rw [ZBt_row, sum_lower]
  · refine Finset.sum_congr rfl fun k _ => ?_
    rw [act_lower m c (stepOf i) _ 7 k i (step_at i), host_wk, dif_neg (by dsimp only; omega), dif_pos (by dsimp only; omega)]
  · intro k
    rw [host_wk, dif_neg (by dsimp only; omega), dif_neg (by dsimp only; omega)]
    exact mul_zero _

/-- The product on the upper lanes. -/
theorem ZB_upper (i : Fin 10000) (l : Fin 64) : ZB m c i ⟨64 + l.val, by omega⟩
    = ∑ k : Fin 64, gcn2 m c i 7 k * m ((c : Thread nD τ).loc main_arg10) (ix2 k l) := by
  have e : ∀ (k : Fin 64) h', (⟨64 + k.val - 64, h'⟩ : Fin 64) = k := fun k _ => Fin.ext (by show 64 + k.val - 64 = k.val; omega)
  unfold ZB
  rw [ZBt_row, sum_upper]
  · refine Finset.sum_congr rfl fun k _ => ?_
    rw [act_upper m c (stepOf i) _ 7 k i (step_at i), host_wk, dif_pos (by dsimp only; omega), e, e]
  · intro k
    rw [host_wk, dif_neg (by dsimp only; omega), dif_neg (by dsimp only; omega)]
    exact mul_zero _

/-- The mean on the lower lanes. -/
theorem CH_lower (i : Fin 10000) (l : Fin 64) : CH m c i ⟨l.val, by omega⟩
    = (∑ n : Fin 7, gcn1 m c i ⟨n.val, by omega⟩ l) * ((1 / 7 : ℝ) : EReal) := by
  unfold CH
  rw [Ct_row, if_pos l.isLt]
  refine congrArg (· * _) (Finset.sum_congr rfl fun n _ => ?_)
  rw [act_lower m c (stepOf i) _ _ l i (step_at i)]

/-- The node before the last on the upper lanes. -/
theorem CH_upper (i : Fin 10000) (l : Fin 64) : CH m c i ⟨64 + l.val, by omega⟩ = gcn2 m c i 6 l := by
  unfold CH
  rw [Ct_row, if_neg (by dsimp only; omega), act_upper m c (stepOf i) _ _ l i (step_at i)]

/-! ## The results' rows -/

/-- The column that sums the lower lanes, and the one that sums the upper lanes. -/
def col (j : Fin 2) (k : Fin 128) : EReal := if k.val / 64 = j.val then 1 else 0

/-- The column table's block is the two columns. -/
theorem blk_col (j : Fin 2) (k : Fin 128) : (oM (iblk m c 8 t) (ix2 k j) : EReal) = col j k := by
  rw [blk_o]
  have : (oM (V m c main_call0_v36) (ix2 k j) : EReal) = V m c main_call0_v36 (ix2 k j) := by pointwise [oM]
  rw [this, host_o]
  rfl

/-- The first discriminator's bias. -/
theorem blk_bk0 : (sc0 (iblk m c 9 t) : EReal) = m ((c : Thread nD τ).loc main_arg9) (ix1 0) := by
  rw [blk_bk]
  exact (show (sc0 (V m c main_call0_v32) : EReal) = V m c main_call0_v32 (ix2 0 0) from
    congrArg (V m c main_call0_v32) (funext fun a => match a with | ⟨0, _⟩ => rfl | ⟨1, _⟩ => rfl)).trans ((host_bk m c 0).trans (if_pos (by decide)))
/-- The second discriminator's bias. -/
theorem blk_bk1 : (sc1 (iblk m c 9 t) : EReal) = m ((c : Thread nD τ).loc main_arg11) (ix1 0) := by
  rw [blk_bk]
  exact (show (sc1 (V m c main_call0_v32) : EReal) = V m c main_call0_v32 (ix2 0 1) from
    congrArg (V m c main_call0_v32) (funext fun a => match a with | ⟨0, _⟩ => rfl | ⟨1, _⟩ => rfl)).trans ((host_bk m c 1).trans (if_neg (by decide)))

/-- A row of the first result. -/
theorem dot_lower (i j : Fin 10000) (b : EReal) : dotRow (ZB m c i) (CH m c j) (col 0) b
    = ∑ l : Fin 64, (∑ k : Fin 64, gcn1 m c i 7 k * m ((c : Thread nD τ).loc main_arg8) (ix2 k l))
        * ((∑ n : Fin 7, gcn1 m c j ⟨n.val, by omega⟩ l) * ((1 / 7 : ℝ) : EReal)) + b := by
  unfold dotRow
  rw [sum_lower]
  · refine congrArg (· + b) (Finset.sum_congr rfl fun l _ => ?_)
    rw [ZB_lower, CH_lower, col, if_pos (by show l.val / 64 = 0; omega), mul_one]
  · intro l
    rw [col, if_neg (by show ¬ (64 + l.val) / 64 = 0; omega), mul_zero]

/-- A row of the second result. -/
theorem dot_upper (i j : Fin 10000) (b : EReal) : dotRow (ZB m c i) (CH m c j) (col 1) b
    = ∑ l : Fin 64, (∑ k : Fin 64, gcn2 m c i 7 k * m ((c : Thread nD τ).loc main_arg10) (ix2 k l)) * gcn2 m c j 6 l + b := by
  unfold dotRow
  rw [sum_upper]
  · refine congrArg (· + b) (Finset.sum_congr rfl fun l _ => ?_)
    rw [ZB_upper, CH_upper, col, if_pos (by show (64 + l.val) / 64 = 1; omega), mul_one]
  · intro l
    rw [col, if_neg (by show ¬ l.val / 64 = 1; omega), mul_zero]

end Cert.KernelIdeal.Body
-- ==== Proof.Ref.lean ====
/-
  The reference's results element by element, over the extended reals.
-/
module

public import proofs.«01_k».proof.Proof.Results
public import proofs.«01_k».proof.Proof.Gen.ReferenceIdeal.Run

@[expose] public section

set_option maxRecDepth 16384

noncomputable section

namespace Cert.ReferenceIdeal.Rows

open Idealize.ShloMosaic Idealize.SL.Sem Idealize.ShloMosaic.TcCoe
open Cert.ReferenceIdeal Cert.ReferenceIdeal.Gen

/-! ## The reference's pieces -/

/-- One layer: the adjacency times the linear map, the bias, and PReLU. -/
def layer (x : FVec Ideal S10000x8x256 .f32) (A : FVec Ideal S10000x8x8 .f32) (W : FVec Ideal S64x256 .f32) (b : FVec Ideal S64 .f32)
    (a : FVec Ideal S1 .f32) : FVec Ideal S10000x8x64 .f32 :=
  let y := addf (Host.dotGeneral dot_S10000x8x8_S10000x8x64_S10000x8x64_2_1_1_2_0_0 none A
      (Host.dotGeneral dot_S10000x8x256_S64x256_S10000x8x64_2_1_01_0_n_n none x W))
    (broadcastInDim S10000x8x64 ![0, 1, 2] bcast_S1x1x64_S10000x8x64_0_1_2 (broadcastInDim S1x1x64 ![2] bcast_S64_S1x1x64_2 b))
  select (cmpf .oge y (broadcastInDim S10000x8x64 ![] bcast_S_S10000x8x64 (constant S_ .f32 0x00000000#32))) y
    (mulf (broadcastInDim S10000x8x64 ![0, 1, 2] bcast_S1x1x1_S10000x8x64_0_1_2 (broadcastInDim S1x1x1 ![2] bcast_S1_S1x1x1_2 a)) y)

/-- The last node. -/
def last (h : FVec Ideal S10000x8x64 .f32) : FVec Ideal S10000x64 .f32 :=
  shapeCast _ (extractStridedSlice S10000x1x64 ![0, 7, 0] h slices_S10000x8x64_S10000x1x64_0_7_0) shapeCasts_S10000x1x64_S10000x64
/-- The node before it. -/
def prev (h : FVec Ideal S10000x8x64 .f32) : FVec Ideal S10000x64 .f32 :=
  shapeCast _ (extractStridedSlice S10000x1x64 ![0, 6, 0] h slices_S10000x8x64_S10000x1x64_0_6_0) shapeCasts_S10000x1x64_S10000x64
/-- The mean over the other nodes. -/
def mean (h : FVec Ideal S10000x8x64 .f32) : FVec Ideal S10000x64 .f32 :=
  Host.divf (Host.reduceAdd (extractStridedSlice S10000x7x64 ![0, 0, 0] h slices_S10000x8x64_S10000x7x64_0_0_0) (constant S_ .f32 0x00000000#32)
    reducesTo_S10000x7x64_S10000x64_d1 h_S_) (broadcastInDim S10000x64 ![] bcast_S_S10000x64 (constant S_ .f32 0x40E00000#32))
/-- The rows rolled by one, the first being the last but one. -/
def rolled (h : FVec Ideal S10000x64 .f32) : FVec Ideal S10000x64 .f32 :=
  concatenate S10000x64 0 [⟨S1x64, (extractStridedSlice S1x64 ![9998, 0] h slices_S10000x64_S1x64_9998_0)⟩,
    ⟨S9999x64, (extractStridedSlice S9999x64 ![0, 0] h slices_S10000x64_S9999x64_0_0)⟩] concatenates_S1x64_S9999x64_S10000x64_d0
/-- The bilinear form, row by row. -/
def bil (z h : FVec Ideal S10000x64 .f32) (W : FVec Ideal S64x64 .f32) (b : FVec Ideal S1 .f32) : FVec Ideal S10000x1 .f32 :=
  addf (broadcastInDim S10000x1 ![0] bcast_S10000_S10000x1_0 (Host.reduceAdd (mulf (Host.dotGeneral dot_S10000x64_S64x64_S10000x64_1_0_0_1_n_n none z W) h)
    (constant S_ .f32 0x00000000#32) reducesTo_S10000x64_S10000_d1 h_S_))
    (broadcastInDim S10000x1 ![0, 1] bcast_S1x1_S10000x1_0_1 (broadcastInDim S1x1 ![1] bcast_S1_S1x1_1 b))
/-- The discriminator: the bilinear form against the rows and against the rolled rows. -/
def disc (z h : FVec Ideal S10000x64 .f32) (W : FVec Ideal S64x64 .f32) (b : FVec Ideal S1 .f32) : FVec Ideal S20000x1 .f32 :=
  concatenate S20000x1 0 [⟨S10000x1, bil z h W b⟩, ⟨S10000x1, bil z (rolled h) W b⟩] concatenates_S10000x1_S10000x1_S20000x1_d0

variable (m : (ℓ : Loc nD τ sig) → Buf (Elt Ideal) ℓ) (c : Dev nD)

/-- The first layer's activations. -/
def h1 : FVec Ideal S10000x8x64 .f32 := layer (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
/-- The second layer's activations. -/
def h2 : FVec Ideal S10000x8x64 .f32 := layer (m ((c.tc : Thread nD τ).loc main_arg0)) (m ((c.tc : Thread nD τ).loc main_arg1))
  (m ((c.tc : Thread nD τ).loc main_arg5)) (m ((c.tc : Thread nD τ).loc main_arg6)) (m ((c.tc : Thread nD τ).loc main_arg7))

/-- The first result is the discriminator of the last node against the mean. -/
theorem out0_eq : Value.res_main_v45 m c
    = disc (last (h1 m c)) (mean (h1 m c)) (m ((c.tc : Thread nD τ).loc main_arg8)) (m ((c.tc : Thread nD τ).loc main_arg9)) := rfl
/-- The second result is the discriminator of the last node against the one before. -/
theorem out1_eq : Value.res_main_v67 m c
    = disc (last (h2 m c)) (prev (h2 m c)) (m ((c.tc : Thread nD τ).loc main_arg10)) (m ((c.tc : Thread nD τ).loc main_arg11)) := rfl

/-! ## Their elements -/

section
variable (x : FVec Ideal S10000x8x256 .f32) (A : FVec Ideal S10000x8x8 .f32) (W : FVec Ideal S64x256 .f32) (b : FVec Ideal S64 .f32)
    (a : FVec Ideal S1 .f32) (h : FVec Ideal S10000x8x64 .f32) (z g : FVec Ideal S10000x64 .f32) (K : FVec Ideal S64x64 .f32) (p : Fin 10000) (n : Fin 8) (l : Fin 64)

/-- An activation. -/
theorem layer_apply : layer x A W b a (ix3 p n l)
    = Cert.KernelIdeal.Body.prelu (a (ix1 0)) (∑ k : Fin 8, A (ix3 p n k) * (∑ i : Fin 256, x (ix3 p k i) * W (ix2 l i)) + b (ix1 l)) := by
  pointwise [layer]
  rfl

/-- The last node's. -/
theorem last_apply : last h (ix2 p l) = h (ix3 p 7 l) := by
  pointwise [last]

/-- The node before it's. -/
theorem prev_apply : prev h (ix2 p l) = h (ix3 p 6 l) := by
  pointwise [prev]

/-- The mean's. -/
theorem mean_apply : mean h (ix2 p l) = (∑ n : Fin 7, h (ix3 p ⟨n.val, by omega⟩ l)) * ((1 / 7 : ℝ) : EReal) := by
  pointwise [mean]
  rw [Cert.KernelIdeal.Body.ofBits_seven, Ideal.div_coe (by norm_num)]

/-- A rolled row's. -/
theorem rolled_apply : rolled g (ix2 p l) = g (ix2 (Cert.KernelIdeal.Body.rollRow p) l) := by
  pointwise [rolled]
  unfold Cert.KernelIdeal.Body.rollRow
  split
  · rename_i h
    rw [dif_pos (by omega)]
    exact congrArg (fun q => g (ix2 q l)) (Fin.ext (by show 9998 + p.val = 9998; omega))
  · rename_i h
    rw [dif_neg (by omega)]

/-- The bilinear form's. -/
theorem bil_apply : bil z g K a (ix2 p 0) = ∑ l : Fin 64, (∑ k : Fin 64, z (ix2 p k) * K (ix2 k l)) * g (ix2 p l) + a (ix1 0) := by
  pointwise [bil]

/-- The discriminator's first half. -/
theorem disc_lo : disc z g K a (ix2 ⟨p.val, by omega⟩ 0)
    = ∑ l : Fin 64, (∑ k : Fin 64, z (ix2 p k) * K (ix2 k l)) * g (ix2 p l) + a (ix1 0) := by
  rw [← bil_apply]
  pointwise [disc]

/-- Its second half. -/
theorem disc_hi : disc z g K a (ix2 ⟨p.val + 10000, by omega⟩ 0)
    = ∑ l : Fin 64, (∑ k : Fin 64, z (ix2 p k) * K (ix2 k l)) * g (ix2 (Cert.KernelIdeal.Body.rollRow p) l) + a (ix1 0) := by
  simp only [← rolled_apply]
  rw [← bil_apply]
  pointwise [disc]
  rw [dif_neg (by omega)]
  exact congrArg (fun q => bil z (rolled g) K a (ix2 q 0)) (Fin.ext (by show p.val + 10000 - 10000 = p.val; omega))
end

end Cert.ReferenceIdeal.Rows

end
-- ==== Proof.Agree.lean ====
/-
  The kernel's two result arrays are the reference's, over the extended reals.
-/
module

public import proofs.«01_k».proof.Defs
public import proofs.«01_k».proof.Proof.Rows
public import proofs.«01_k».proof.Proof.Ref

@[expose] public section

set_option maxRecDepth 16384

noncomputable section

namespace Cert.KernelIdeal.Body

open Idealize.ShloMosaic Idealize.SL.Sem Idealize.ShloMosaic.TcCoe
open Cert.KernelIdeal Cert.KernelIdeal.Gen

/-! ## The result arrays after the launch -/

/-- The first result is never fetched. -/
theorem fetch_10 (t : Fin cfg0.N) : (cfg0.win 10).fetch t = false := Pipeline.Window.fetch_out _ rfl t
/-- Nor is the second. -/
theorem fetch_11 (t : Fin cfg0.N) : (cfg0.win 11).fetch t = false := Pipeline.Window.fetch_out _ rfl t
/-- The first result is not written back before the last step. -/
theorem flush_10 (t : Fin cfg0.N) (h : t.val < 4) : (cfg0.win 10).flush t = false :=
  Bool.eq_false_iff.mpr fun e => by have := (flush0_10 t).mp e; omega
/-- Nor is the second. -/
theorem flush_11 (t : Fin cfg0.N) (h : t.val < 4) : (cfg0.win 11).flush t = false :=
  Bool.eq_false_iff.mpr fun e => by have := (flush0_11 t).mp e; omega

/-- Before the first step nothing has been written. -/
theorem done_zero (Z C : Fin 10000 → Fin 128 → EReal) (o : Fin 128 → EReal) (b : EReal) (X : S20000x1.Idx → EReal) : Done Z C o b 0 X :=
  fun _ => ⟨fun h => absurd h (by omega), fun h => absurd h (by omega)⟩

variable (m : (ℓ : Loc nD τ sig) → Buf (Elt Ideal) ℓ) (c : Dev nD)

/-- Both arrays are whole: what the last step left is what they hold. -/
theorem arr_done (w : Fin cfg0.W) (G : Buf (Elt Ideal) ((cfg0.win w).arr.view.loc (c.tc : Thread nD τ)))
    (hG : (rdat m c).ArrAt w cfg0.N G) (D : ((cfg0.win w).block.Idx → Elt Ideal (cfg0.win w).elt) → Prop)
    (hw : (cfg0.win w).WholeAt ⟨4, by decide⟩) (hD : ∀ X, (rdat m c).Leaves w ⟨4, by decide⟩ X → D X) :
    ∃ X, D X ∧ ∀ j : (cfg0.win w).shape.Idx,
      G ((cfg0.win w).arr.view.emb j) = _root_.cast (congrArg (Elt Ideal) (cfg0.win w).arr.view.elt_eq.symm) (X fun a => ⟨j a, hw.lt_size j a⟩) :=
  let ⟨X, hX, e⟩ := hG.emb_eq_of_wholeAt hw
  ⟨X, hD X hX, e⟩

/-- The first result's rows. -/
theorem result0 (G : S20000x1.Idx → EReal) (hG : (rdat m c).ArrAt 10 cfg0.N G) :
    Done (ZB m c) (CH m c) (col 0) (m ((c : Thread nD τ).loc main_arg9) (ix1 0)) 5 G := by
  obtain ⟨X, hX, e⟩ := arr_done m c 10 G hG
    (fun X => Done (ZB m c) (CH m c) (col 0) (m ((c : Thread nD τ).loc main_arg9) (ix1 0)) 5 X) (by decide +kernel)
    (leaves_done m c 10 (fun n X => Done (ZB m c) (CH m c) (col 0) (m ((c : Thread nD τ).loc main_arg9) (ix1 0)) n X) fetch_10 flush_10
      (done_zero _ _ _ _) (fun t Y X h hY => rel0_done m c t _ _ (blk_col m c t 0) (blk_bk0 m c t) Y X h hY) 4 _)
  rw [show G = X from funext e]
  exact hX

/-- The second result's rows. -/
theorem result1 (G : S20000x1.Idx → EReal) (hG : (rdat m c).ArrAt 11 cfg0.N G) :
    Done (ZB m c) (CH m c) (col 1) (m ((c : Thread nD τ).loc main_arg11) (ix1 0)) 5 G := by
  obtain ⟨X, hX, e⟩ := arr_done m c 11 G hG
    (fun X => Done (ZB m c) (CH m c) (col 1) (m ((c : Thread nD τ).loc main_arg11) (ix1 0)) 5 X) (by decide +kernel)
    (leaves_done m c 11 (fun n X => Done (ZB m c) (CH m c) (col 1) (m ((c : Thread nD τ).loc main_arg11) (ix1 0)) n X) fetch_11 flush_11
      (done_zero _ _ _ _) (fun t Y X h hY => rel1_done m c t _ _ (blk_col m c t 1) (blk_bk1 m c t) Y X h hY) 4 _)
  rw [show G = X from funext e]
  exact hX

end Cert.KernelIdeal.Body

namespace Cert.ReferenceIdeal.Rows

open Idealize.ShloMosaic Idealize.SL.Sem Idealize.ShloMosaic.TcCoe
open Cert.ReferenceIdeal Cert.ReferenceIdeal.Gen Cert.KernelIdeal.Body

/-- An array whose rows are a discriminator's is the discriminator. -/
theorem eq_disc (Z C : Fin 10000 → Fin 128 → EReal) (o : Fin 128 → EReal) (b : EReal) (z g : FVec Ideal S10000x64 .f32)
    (K : FVec Ideal S64x64 .f32) (a : FVec Ideal S1 .f32) (X : S20000x1.Idx → EReal) (hX : Done Z C o b 5 X)
    (h : ∀ i j, dotRow (Z i) (C j) o b
      = ∑ l : Fin 64, (∑ k : Fin 64, z (ix2 i k) * K (ix2 k l)) * g (ix2 j l) + a (ix1 0)) : X = disc z g K a := by
  funext j
  obtain ⟨i, rfl⟩ : ∃ i : Fin 20000, j = ix2 i 0 :=
    ⟨j 0, funext fun a => match a with | ⟨0, _⟩ => rfl | ⟨1, _⟩ => Subsingleton.elim (α := Fin 1) _ _⟩
  by_cases hi : i.val < 10000
  · exact ((hX ⟨i.val, hi⟩).1 (by dsimp only; omega)).trans ((h _ _).trans (disc_lo (z := z) (g := g) (K := K) (a := a) (p := ⟨i.val, hi⟩)).symm)
  · have hi2 := i.isLt
    have e : i = ⟨(⟨i.val - 10000, by omega⟩ : Fin 10000).val + 10000, by dsimp only; omega⟩ := Fin.ext (by dsimp only; omega)
    rw [e]
    exact ((hX ⟨i.val - 10000, by omega⟩).2 (by dsimp only; omega) (fun _ => rfl)).trans ((h _ _).trans (disc_hi (z := z) (g := g) (K := K) (a := a) (p := ⟨i.val - 10000, by omega⟩)).symm)

/-- The two programs' arguments agree. -/
def Agree (m : (ℓ : Loc Cert.KernelIdeal.nD Cert.KernelIdeal.τ Cert.KernelIdeal.sig) → Buf (Elt Ideal) ℓ)
    (m' : (ℓ : Loc nD τ sig) → Buf (Elt Ideal) ℓ) (c : Dev nD) : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)
  ∧ m' ((c.tc : Thread nD τ).loc main_arg4) = m ((c.tc : Thread Cert.KernelIdeal.nD Cert.KernelIdeal.τ).loc Cert.KernelIdeal.main_arg4)
  ∧ m' ((c.tc : Thread nD τ).loc main_arg5) = m ((c.tc : Thread Cert.KernelIdeal.nD Cert.KernelIdeal.τ).loc Cert.KernelIdeal.main_arg5)
  ∧ m' ((c.tc : Thread nD τ).loc main_arg6) = m ((c.tc : Thread Cert.KernelIdeal.nD Cert.KernelIdeal.τ).loc Cert.KernelIdeal.main_arg6)
  ∧ m' ((c.tc : Thread nD τ).loc main_arg7) = m ((c.tc : Thread Cert.KernelIdeal.nD Cert.KernelIdeal.τ).loc Cert.KernelIdeal.main_arg7)
  ∧ m' ((c.tc : Thread nD τ).loc main_arg8) = m ((c.tc : Thread Cert.KernelIdeal.nD Cert.KernelIdeal.τ).loc Cert.KernelIdeal.main_arg8)
  ∧ m' ((c.tc : Thread nD τ).loc main_arg9) = m ((c.tc : Thread Cert.KernelIdeal.nD Cert.KernelIdeal.τ).loc Cert.KernelIdeal.main_arg9)
  ∧ m' ((c.tc : Thread nD τ).loc main_arg10) = m ((c.tc : Thread Cert.KernelIdeal.nD Cert.KernelIdeal.τ).loc Cert.KernelIdeal.main_arg10)
  ∧ m' ((c.tc : Thread nD τ).loc main_arg11) = m ((c.tc : Thread Cert.KernelIdeal.nD Cert.KernelIdeal.τ).loc Cert.KernelIdeal.main_arg11)

variable {m : (ℓ : Loc Cert.KernelIdeal.nD Cert.KernelIdeal.τ Cert.KernelIdeal.sig) → Buf (Elt Ideal) ℓ}
  {m' : (ℓ : Loc nD τ sig) → Buf (Elt Ideal) ℓ} {c : Dev nD}

/-- The first layer's activations are the kernel's. -/
theorem h1_apply (H : Agree m m' c) (p : Fin 10000) (n : Fin 8) (l : Fin 64) : h1 m' c (ix3 p n l) = gcn1 m c p n l := by
  obtain ⟨e0, e1, e2, e3, e4, -⟩ := H
  unfold h1
  rw [layer_apply, e0, e1, e2, e3, e4]
  rfl

/-- The second layer's activations are the kernel's. -/
theorem h2_apply (H : Agree m m' c) (p : Fin 10000) (n : Fin 8) (l : Fin 64) : h2 m' c (ix3 p n l) = gcn2 m c p n l := by
  obtain ⟨e0, e1, -, -, -, e5, e6, e7, -⟩ := H
  unfold h2
  rw [layer_apply, e0, e1, e5, e6, e7]
  rfl

/-- The kernel's first result is the reference's. -/
theorem agree0 (H : Agree m m' c) (G : S20000x1.Idx → EReal) (hG : (rdat m c).ArrAt 10 Cert.KernelIdeal.cfg0.N G) :
    G = Value.res_main_v45 m' c := by
  rw [out0_eq]
  refine eq_disc _ _ _ _ _ _ _ _ G (result0 m c G hG) fun i j => (dot_lower m c i j _).trans ?_
  simp only [last_apply, mean_apply, h1_apply H]
  obtain ⟨-, -, -, -, -, -, -, -, e8, e9, -⟩ := H
  rw [e8, e9]

/-- The kernel's second result is the reference's. -/
theorem agree1 (H : Agree m m' c) (G : S20000x1.Idx → EReal) (hG : (rdat m c).ArrAt 11 Cert.KernelIdeal.cfg0.N G) :
    G = Value.res_main_v67 m' c := by
  rw [out1_eq]
  refine eq_disc _ _ _ _ _ _ _ _ G (result1 m c G hG) fun i j => (dot_upper m c i j _).trans ?_
  simp only [last_apply, prev_apply, h2_apply H]
  obtain ⟨-, -, -, -, -, -, -, -, -, -, e10, e11⟩ := H
  rw [e10, e11]

end Cert.ReferenceIdeal.Rows

namespace Cert.Proof

open Idealize.ShloMosaic Idealize.SL.Sem

attribute [local instance] Cert.KernelIdeal.Gen.facts Cert.ReferenceIdeal.Gen.facts

/-- Over the extended reals the kernel's two results are the reference's, on arguments that agree. -/
theorem algebraic : Cert.algebraic_KernelIdeal_ReferenceIdeal := by
  intro m g m' g' _ H
  refine ⟨fun c => Cert.ReferenceIdeal.Value.res_main_v45 m' c, fun c => Cert.ReferenceIdeal.Value.res_main_v67 m' c, ?_, ?_⟩
  · exact (θ_run Cert.KernelIdeal.defs _ _).mono
      (fun r h c => ⟨Cert.ReferenceIdeal.Rows.agree0 (H c) _ ((h.1 c).1 10), Cert.ReferenceIdeal.Rows.agree1 (H c) _ ((h.1 c).1 11),
        Cert.KernelIdeal.Body.frame_post m h.1 c⟩)
      (Cert.KernelIdeal.Body.run_main (F := Ideal) m g)
  · exact Cert.ReferenceIdeal.Value.run (F := Ideal) m' g'

end Cert.Proof

end
-- ==== Proof.lean ====
/-
  The proof of the claims: both programs' frames, the reference's frame, that the idealization rewrote nothing,
  and that the kernel's results are the reference's over the extended reals.
-/
module

public import proofs.«01_k».proof.Defs
public import proofs.«01_k».proof.Proof.Frames
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The reference's frame: its run read at the arguments; it declares no semaphore. -/
theorem quiescent_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- The idealization rewrote nothing. -/
theorem preserves : Cert.preserves_Kernel_KernelIdeal := trivial

/-- Every claim. -/
theorem claim : Cert.Claim := ⟨Cert.Kernel.Gen.facts, Cert.KernelIdeal.Gen.facts, Cert.ReferenceIdeal.Gen.facts,
  quiescent_kernel, quiescent_kernelIdeal, quiescent_reference, preserves, algebraic⟩

end Cert.Proof

end
